-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
-- ==== Pre_finite_keys.lean ====
abbrev S1024x64 : Shape := ⟨2, ![1024, 64]⟩
abbrev S8192x64 : Shape := ⟨2, ![8192, 64]⟩
abbrev S8192 : Shape := ⟨1, ![8192]⟩
abbrev S1x64 : Shape := ⟨2, ![1, 64]⟩
abbrev S1 : Shape := ⟨1, ![1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S1024x64 .f32) (main_arg1 : FVec F S8192x64 .f32) (main_arg2 : FVec F S8192 .f32) (main_arg3 : FVec F S1x64 .f32) (main_arg4 : FVec F S1 .f32) : IVec S_ 1 :=
  let main_v0 : FVec F S8192x64 .f32 := Host.absf main_arg1
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S1024x64 : Shape := ⟨2, ![1024, 64]⟩
abbrev S8192x64 : Shape := ⟨2, ![8192, 64]⟩
abbrev S8192 : Shape := ⟨1, ![8192]⟩
abbrev S1x64 : Shape := ⟨2, ![1, 64]⟩
abbrev S1 : Shape := ⟨1, ![1]⟩
abbrev S1x8192 : Shape := ⟨2, ![1, 8192]⟩
abbrev S1x1 : Shape := ⟨2, ![1, 1]⟩
abbrev S1024x1 : Shape := ⟨2, ![1024, 1]⟩
abbrev S512x64 : Shape := ⟨2, ![512, 64]⟩
abbrev S1x512 : Shape := ⟨2, ![1, 512]⟩
abbrev S1024x512 : Shape := ⟨2, ![1024, 512]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S1024x64, .f32⟩
  | .hbm, ⟨1, _⟩ => ⟨S8192x64, .f32⟩
  | .hbm, ⟨2, _⟩ => ⟨S8192, .f32⟩
  | .hbm, ⟨3, _⟩ => ⟨S1x64, .f32⟩
  | .hbm, ⟨4, _⟩ => ⟨S1, .f32⟩
  | .hbm, ⟨5, _⟩ => ⟨S1x8192, .f32⟩
  | .hbm, ⟨6, _⟩ => ⟨S1x1, .f32⟩
  | .hbm, ⟨7, _⟩ => ⟨S1024x1, .f32⟩
  | .local _ .vmem, ⟨0, _⟩ => ⟨S1024x64, .f32⟩
  | .local _ .vmem, ⟨1, _⟩ => ⟨S512x64, .f32⟩
  | .local _ .vmem, ⟨2, _⟩ => ⟨S512x64, .f32⟩
  | .local _ .vmem, ⟨3, _⟩ => ⟨S1x512, .f32⟩
  | .local _ .vmem, ⟨4, _⟩ => ⟨S1x512, .f32⟩
  | .local _ .vmem, ⟨5, _⟩ => ⟨S1x64, .f32⟩
  | .local _ .vmem, ⟨6, _⟩ => ⟨S1x1, .f32⟩
  | .local _ .vmem, ⟨7, _⟩ => ⟨S1024x1, .f32⟩
  | .local _ .vmem, ⟨8, _⟩ => ⟨S1024x1, .i32⟩
  | .local _ .vmem, ⟨9, _⟩ => ⟨S1024x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_26 : BitVec 32 := 0#32
  let v57 : BitVec 1 := Scalar.cmpi .ne v56 c0_i32_26
  v57

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x64 : Shape := ⟨2, ![1024, 64]⟩
abbrev S8192x64 : Shape := ⟨2, ![8192, 64]⟩
abbrev S8192 : Shape := ⟨1, ![8192]⟩
abbrev S1x64 : Shape := ⟨2, ![1, 64]⟩
abbrev S1 : Shape := ⟨1, ![1]⟩
abbrev S128x64 : Shape := ⟨2, ![128, 64]⟩
abbrev S128x1x64 : Shape := ⟨3, ![128, 1, 64]⟩
abbrev S1x8192x64 : Shape := ⟨3, ![1, 8192, 64]⟩
abbrev S128x8192x64 : Shape := ⟨3, ![128, 8192, 64]⟩
abbrev S_ : Shape := ⟨0, ![]⟩
abbrev S128x8192 : Shape := ⟨2, ![128, 8192]⟩
abbrev S128 : Shape := ⟨1, ![128]⟩
abbrev S1024 : Shape := ⟨1, ![1024]⟩
abbrev S1024x1 : Shape := ⟨2, ![1024, 1]⟩
abbrev S1x1 : Shape := ⟨2, ![1, 1]⟩
abbrev S64x1 : Shape := ⟨2, ![64, 1]⟩

abbrev nBuf : Space → Nat
  | .hbm => 157
  | .vmem => 0
  | .smem => 0
  | _ => 0

abbrev hbmTy0_0 (i : Nat) : BufTy := match i % 128 with
  | 0 => ⟨S1024x64, .f32⟩
  | 1 => ⟨S8192x64, .f32⟩
  | 2 => ⟨S8192, .f32⟩
  | 3 => ⟨S1x64, .f32⟩
  | 4 => ⟨S1, .f32⟩
  | 5 => ⟨S128x64, .f32⟩
  | 6 => ⟨S128x1x64, .f32⟩
  | 7 => ⟨S1x8192x64, .f32⟩
  | 8 => ⟨S128x8192x64, .f32⟩
  | 9 => ⟨S128x8192x64, .f32⟩
  | 10 => ⟨S128x8192x64, .i1⟩
  | 11 => ⟨S_, .i1⟩
  | 12 => ⟨S128x8192, .i1⟩
  | 13 => ⟨S_, .i1⟩
  | 14 => ⟨S128, .i1⟩
  | 15 => ⟨S128x8192, .i32⟩
  | 16 => ⟨S_, .i1⟩
  | 17 => ⟨S_, .i32⟩
  | 18 => ⟨S128, .i1⟩
  | 19 => ⟨S128, .i32⟩
  | 20 => ⟨S128x64, .f32⟩
  | 21 => ⟨S128x1x64, .f32⟩
  | 22 => ⟨S1x8192x64, .f32⟩
  | 23 => ⟨S128x8192x64, .f32⟩
  | 24 => ⟨S128x8192x64, .f32⟩
  | 25 => ⟨S128x8192x64, .i1⟩
  | 26 => ⟨S_, .i1⟩
  | 27 => ⟨S128x8192, .i1⟩
  | 28 => ⟨S_, .i1⟩
  | 29 => ⟨S128, .i1⟩
  | 30 => ⟨S128x8192, .i32⟩
  | 31 => ⟨S_, .i1⟩
  | 32 => ⟨S_, .i32⟩
  | 33 => ⟨S128, .i1⟩
  | 34 => ⟨S128, .i32⟩
  | 35 => ⟨S128x64, .f32⟩
  | 36 => ⟨S128x1x64, .f32⟩
  | 37 => ⟨S1x8192x64, .f32⟩
  | 38 => ⟨S128x8192x64, .f32⟩
  | 39 => ⟨S128x8192x64, .f32⟩
  | 40 => ⟨S128x8192x64, .i1⟩
  | 41 => ⟨S_, .i1⟩
  | 42 => ⟨S128x8192, .i1⟩
  | 43 => ⟨S_, .i1⟩
  | 44 => ⟨S128, .i1⟩
  | 45 => ⟨S128x8192, .i32⟩
  | 46 => ⟨S_, .i1⟩
  | 47 => ⟨S_, .i32⟩
  | 48 => ⟨S128, .i1⟩
  | 49 => ⟨S128, .i32⟩
  | 50 => ⟨S128x64, .f32⟩
  | 51 => ⟨S128x1x64, .f32⟩
  | 52 => ⟨S1x8192x64, .f32⟩
  | 53 => ⟨S128x8192x64, .f32⟩
  | 54 => ⟨S128x8192x64, .f32⟩
  | 55 => ⟨S128x8192x64, .i1⟩
  | 56 => ⟨S_, .i1⟩
  | 57 => ⟨S128x8192, .i1⟩
  | 58 => ⟨S_, .i1⟩
  | 59 => ⟨S128, .i1⟩
  | 60 => ⟨S128x8192, .i32⟩
  | 61 => ⟨S_, .i1⟩
  | 62 => ⟨S_, .i32⟩
  | 63 => ⟨S128, .i1⟩
  | 64 => ⟨S128, .i32⟩
  | 65 => ⟨S128x64, .f32⟩
  | 66 => ⟨S128x1x64, .f32⟩
  | 67 => ⟨S1x8192x64, .f32⟩
  | 68 => ⟨S128x8192x64, .f32⟩
  | 69 => ⟨S128x8192x64, .f32⟩
  | 70 => ⟨S128x8192x64, .i1⟩
  | 71 => ⟨S_, .i1⟩
  | 72 => ⟨S128x8192, .i1⟩
  | 73 => ⟨S_, .i1⟩
  | 74 => ⟨S128, .i1⟩
  | 75 => ⟨S128x8192, .i32⟩
  | 76 => ⟨S_, .i1⟩
  | 77 => ⟨S_, .i32⟩
  | 78 => ⟨S128, .i1⟩
  | 79 => ⟨S128, .i32⟩
  | 80 => ⟨S128x64, .f32⟩
  | 81 => ⟨S128x1x64, .f32⟩
  | 82 => ⟨S1x8192x64, .f32⟩
  | 83 => ⟨S128x8192x64, .f32⟩
  | 84 => ⟨S128x8192x64, .f32⟩
  | 85 => ⟨S128x8192x64, .i1⟩
  | 86 => ⟨S_, .i1⟩
  | 87 => ⟨S128x8192, .i1⟩
  | 88 => ⟨S_, .i1⟩
  | 89 => ⟨S128, .i1⟩
  | 90 => ⟨S128x8192, .i32⟩
  | 91 => ⟨S_, .i1⟩
  | 92 => ⟨S_, .i32⟩
  | 93 => ⟨S128, .i1⟩
  | 94 => ⟨S128, .i32⟩
  | 95 => ⟨S128x64, .f32⟩
  | 96 => ⟨S128x1x64, .f32⟩
  | 97 => ⟨S1x8192x64, .f32⟩
  | 98 => ⟨S128x8192x64, .f32⟩
  | 99 => ⟨S128x8192x64, .f32⟩
  | 100 => ⟨S128x8192x64, .i1⟩
  | 101 => ⟨S_, .i1⟩
  | 102 => ⟨S128x8192, .i1⟩
  | 103 => ⟨S_, .i1⟩
  | 104 => ⟨S128, .i1⟩
  | 105 => ⟨S128x8192, .i32⟩
  | 106 => ⟨S_, .i1⟩
  | 107 => ⟨S_, .i32⟩
  | 108 => ⟨S128, .i1⟩
  | 109 => ⟨S128, .i32⟩
  | 110 => ⟨S128x64, .f32⟩
  | 111 => ⟨S128x1x64, .f32⟩
  | 112 => ⟨S1x8192x64, .f32⟩
  | 113 => ⟨S128x8192x64, .f32⟩
  | 114 => ⟨S128x8192x64, .f32⟩
  | 115 => ⟨S128x8192x64, .i1⟩
  | 116 => ⟨S_, .i1⟩
  | 117 => ⟨S128x8192, .i1⟩
  | 118 => ⟨S_, .i1⟩
  | 119 => ⟨S128, .i1⟩
  | 120 => ⟨S128x8192, .i32⟩
  | 121 => ⟨S_, .i1⟩
  | 122 => ⟨S_, .i32⟩
  | 123 => ⟨S128, .i1⟩
  | 124 => ⟨S128, .i32⟩
  | 125 => ⟨S1024, .i1⟩
  | 126 => ⟨S1024, .i32⟩
  | 127 => ⟨S_, .i32⟩
  | _ => ⟨S1024x64, .f32⟩

abbrev hbmTy0_1 (i : Nat) : BufTy := match i % 128 with
  | 0 => ⟨S1024, .i32⟩
  | 1 => ⟨S1024, .i1⟩
  | 2 => ⟨S_, .i32⟩
  | 3 => ⟨S1024, .i32⟩
  | 4 => ⟨S1024, .i32⟩
  | 5 => ⟨S1024, .i32⟩
  | 6 => ⟨S1024x1, .i32⟩
  | 7 => ⟨S1, .i32⟩
  | 8 => ⟨S_, .i32⟩
  | 9 => ⟨S1024x1, .i32⟩
  | 10 => ⟨S1024x1, .i1⟩
  | 11 => ⟨S1x1, .i32⟩
  | 12 => ⟨S1024x1, .i32⟩
  | 13 => ⟨S1024x1, .i1⟩
  | 14 => ⟨S1024x1, .i1⟩
  | 15 => ⟨S_, .i1⟩
  | 16 => ⟨S1024, .i1⟩
  | 17 => ⟨S1024, .f32⟩
  | 18 => ⟨S_, .f32⟩
  | 19 => ⟨S1024, .f32⟩
  | 20 => ⟨S1024, .f32⟩
  | 21 => ⟨S64x1, .f32⟩
  | 22 => ⟨S1024x1, .f32⟩
  | 23 => ⟨S1x1, .f32⟩
  | 24 => ⟨S1024x1, .f32⟩
  | 25 => ⟨S1024x1, .f32⟩
  | 26 => ⟨S1024, .f32⟩
  | 27 => ⟨S1024, .f32⟩
  | 28 => ⟨S1024x1, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_call0_v0 : Ref sig .tc := ⟨.hbm, 15, rfl⟩
abbrev main_call0_c : Ref sig .tc := ⟨.hbm, 16, rfl⟩
abbrev main_call0_c_0 : Ref sig .tc := ⟨.hbm, 17, rfl⟩
abbrev main_call0_v1_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_call1_v0 : Ref sig .tc := ⟨.hbm, 30, rfl⟩
abbrev main_call1_c : Ref sig .tc := ⟨.hbm, 31, rfl⟩
abbrev main_call1_c_0 : Ref sig .tc := ⟨.hbm, 32, rfl⟩
abbrev main_call1_v1_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_call2_v0 : Ref sig .tc := ⟨.hbm, 45, rfl⟩
abbrev main_call2_c : Ref sig .tc := ⟨.hbm, 46, rfl⟩
abbrev main_call2_c_0 : Ref sig .tc := ⟨.hbm, 47, rfl⟩
abbrev main_call2_v1_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_call3_v0 : Ref sig .tc := ⟨.hbm, 60, rfl⟩
abbrev main_call3_c : Ref sig .tc := ⟨.hbm, 61, rfl⟩
abbrev main_call3_c_0 : Ref sig .tc := ⟨.hbm, 62, rfl⟩
abbrev main_call3_v1_0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_7 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_call4_v0 : Ref sig .tc := ⟨.hbm, 75, rfl⟩
abbrev main_call4_c : Ref sig .tc := ⟨.hbm, 76, rfl⟩
abbrev main_call4_c_0 : Ref sig .tc := ⟨.hbm, 77, rfl⟩
abbrev main_call4_v1_0 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_call5_v0 : Ref sig .tc := ⟨.hbm, 90, rfl⟩
abbrev main_call5_c : Ref sig .tc := ⟨.hbm, 91, rfl⟩
abbrev main_call5_c_0 : Ref sig .tc := ⟨.hbm, 92, rfl⟩
abbrev main_call5_v1_0 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_11 : Ref sig .tc := ⟨.hbm, 101, rfl⟩
abbrev main_v60 : Ref sig .tc := ⟨.hbm, 102, rfl⟩
abbrev main_c_12 : Ref sig .tc := ⟨.hbm, 103, rfl⟩
abbrev main_v61 : Ref sig .tc := ⟨.hbm, 104, rfl⟩
abbrev main_call6_v0 : Ref sig .tc := ⟨.hbm, 105, rfl⟩
abbrev main_call6_c : Ref sig .tc := ⟨.hbm, 106, rfl⟩
abbrev main_call6_c_0 : Ref sig .tc := ⟨.hbm, 107, rfl⟩
abbrev main_call6_v1_0 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_13 : Ref sig .tc := ⟨.hbm, 116, rfl⟩
abbrev main_v69 : Ref sig .tc := ⟨.hbm, 117, rfl⟩
abbrev main_c_14 : Ref sig .tc := ⟨.hbm, 118, rfl⟩
abbrev main_v70 : Ref sig .tc := ⟨.hbm, 119, rfl⟩
abbrev main_call7_v0 : Ref sig .tc := ⟨.hbm, 120, rfl⟩
abbrev main_call7_c : Ref sig .tc := ⟨.hbm, 121, rfl⟩
abbrev main_call7_c_0 : Ref sig .tc := ⟨.hbm, 122, rfl⟩
abbrev main_call7_v1_0 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_call8_c : Ref sig .tc := ⟨.hbm, 127, rfl⟩
abbrev main_call8_v0 : Ref sig .tc := ⟨.hbm, 128, rfl⟩
abbrev main_call8_v1 : Ref sig .tc := ⟨.hbm, 129, rfl⟩
abbrev main_call8_c_0 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_call8_v5 : Ref sig .tc := ⟨.hbm, 134, rfl⟩
abbrev main_call8_c_1 : Ref sig .tc := ⟨.hbm, 135, rfl⟩
abbrev main_call8_c_2 : Ref sig .tc := ⟨.hbm, 136, rfl⟩
abbrev main_call8_v6 : Ref sig .tc := ⟨.hbm, 137, rfl⟩
abbrev main_call8_v7 : Ref sig .tc := ⟨.hbm, 138, rfl⟩
abbrev main_call8_v8 : Ref sig .tc := ⟨.hbm, 139, rfl⟩
abbrev main_call8_v9 : Ref sig .tc := ⟨.hbm, 140, rfl⟩
abbrev main_call8_v10 : Ref sig .tc := ⟨.hbm, 141, rfl⟩
abbrev main_call8_v11 : Ref sig .tc := ⟨.hbm, 142, rfl⟩
abbrev main_call8_c_3 : Ref sig .tc := ⟨.hbm, 143, rfl⟩
abbrev main_call8_v12 : Ref sig .tc := ⟨.hbm, 144, rfl⟩
abbrev main_call8_v13 : Ref sig .tc := ⟨.hbm, 145, rfl⟩
abbrev main_call8_cst : Ref sig .tc := ⟨.hbm, 146, rfl⟩
abbrev main_call8_v14 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩

abbrev nD : Nat := 1
abbrev τ : Topo := Topo.v7x

variable {F : FTy → Type} [FloatOps F]
-- ==== Proof.Lookup.lean ====
/-
  The problem's mathematics over the extended reals: when a query equals a key, the kernel's way of testing it by a
  squared distance, and what the lookup returns.
-/
module

public import Idealize.ShloMosaic.PureOps.Ideal

@[expose] public section

namespace Cert.Lookup

/-- The query `r` equals the key `k` at every feature. -/
def Hit {R K D : Nat} (x : Fin R → Fin D → EReal) (X : Fin K → Fin D → EReal) (r : Fin R) (k : Fin K) : Prop :=
  ∀ d, x r d = X k d

/-- `k` is the first key that the query `r` equals. -/
def First {R K D : Nat} (x : Fin R → Fin D → EReal) (X : Fin K → Fin D → EReal) (r : Fin R) (k : Fin K) : Prop :=
  Hit x X r k ∧ ∀ k' < k, ¬ Hit x X r k'

/-- `v` is the lookup's result at the query `r`: the value stored for the first key that the query equals, or, when it
    equals none, the linear map's value. -/
def IsLookup {R K D : Nat} (x : Fin R → Fin D → EReal) (X : Fin K → Fin D → EReal) (y : Fin K → EReal) (W : Fin D → EReal)
    (b : EReal) (r : Fin R) (v : EReal) : Prop :=
  (∀ k, First x X r k → v = y k) ∧ ((∀ k, ¬ Hit x X r k) → v = (∑ d, x r d * W d) + b)

/-- A query that equals some key equals a first one. -/
theorem exists_first {R K D : Nat} {x : Fin R → Fin D → EReal} {X : Fin K → Fin D → EReal} {r : Fin R} {k : Fin K}
    (h : Hit x X r k) : ∃ k, First x X r k := by
  induction k using WellFoundedLT.induction with
  | ind k ih =>
    by_cases hm : ∃ k' < k, Hit x X r k'
    · obtain ⟨k', hlt, hk'⟩ := hm
      exact ih k' hlt hk'
    · exact ⟨k, h, fun k' hlt hh => hm ⟨k', hlt, hh⟩⟩

/-- The lookup has one result. -/
theorem IsLookup.unique {R K D : Nat} {x : Fin R → Fin D → EReal} {X : Fin K → Fin D → EReal} {y : Fin K → EReal}
    {W : Fin D → EReal} {b : EReal} {r : Fin R} {v w : EReal} (hv : IsLookup x X y W b r v) (hw : IsLookup x X y W b r w) :
    v = w := by
  by_cases h : ∃ k, Hit x X r k
  · obtain ⟨k, hk⟩ := exists_first h.choose_spec
    rw [hv.1 k hk, hw.1 k hk]
  · have h' : ∀ k, ¬ Hit x X r k := fun k hk => h ⟨k, hk⟩
    rw [hv.2 h', hw.2 h']

/-- A finite sum of real numbers, taken among the extended reals. -/
theorem sum_coe {D : Nat} (f : Fin D → ℝ) : (∑ d, (f d : EReal)) = ((∑ d, f d : ℝ) : EReal) := by
  induction (Finset.univ : Finset (Fin D)) using Finset.cons_induction with
  | empty => simp
  | cons a s ha ih => rw [Finset.sum_cons, Finset.sum_cons, ih, EReal.coe_add]

/-- A sum of squares with an infinite term is `⊤`. -/
theorem sum_sq_top {D : Nat} (x : Fin D → EReal) (d : Fin D) (h : x d * x d = ⊤) : (∑ d, x d * x d) = ⊤ := by
  have hnn : ∀ e, 0 ≤ x e * x e := fun e => by
    rcases le_total 0 (x e) with h | h
    · exact EReal.mul_nonneg_iff.mpr (.inl ⟨h, h⟩)
    · exact EReal.mul_nonneg_iff.mpr (.inr ⟨h, h⟩)
  refine top_le_iff.mp ?_
  rw [← h]
  exact Finset.single_le_sum (f := fun e => x e * x e) (fun e _ => hnn e) (Finset.mem_univ d)

/-- The squared distance of a query `x` and a finite key `k`, written `(‖x‖² − 2 x·k) + ‖k‖²`, is zero exactly when the
    two are equal. -/
theorem dist_eq_zero_iff {D : Nat} (x k : Fin D → EReal) (hk : ∀ d, k d ≠ ⊤ ∧ k d ≠ ⊥) :
    (∑ d, x d * x d) - 2 * (∑ d, x d * k d) + (∑ d, 1 * (k d * k d)) = 0 ↔ ∀ d, x d = k d := by
  lift k to Fin D → ℝ using hk
  simp only [one_mul, ← EReal.coe_mul, sum_coe]
  by_cases hx : ∀ d, x d ≠ ⊤ ∧ x d ≠ ⊥
  · lift x to Fin D → ℝ using hx
    simp only [← EReal.coe_mul, sum_coe, EReal.coe_eq_coe_iff]
    rw [show (2 : EReal) = ((2 : ℝ) : EReal) from rfl]
    simp only [← EReal.coe_mul, ← EReal.coe_sub, ← EReal.coe_add]
    rw [EReal.coe_eq_zero]
    have : (∑ d, x d * x d) - 2 * (∑ d, x d * k d) + (∑ d, k d * k d) = ∑ d, (x d - k d) ^ 2 := by
      rw [Finset.mul_sum, ← Finset.sum_sub_distrib, ← Finset.sum_add_distrib]
      exact Finset.sum_congr rfl fun d _ => by ring
    rw [this, Finset.sum_eq_zero_iff_of_nonneg fun d _ => sq_nonneg _]
    constructor
    · intro h d
      have := h d (Finset.mem_univ d)
      exact sub_eq_zero.mp (pow_eq_zero_iff (two_ne_zero)|>.mp this)
    · intro h d _
      rw [h d]; simp
  · push Not at hx
    obtain ⟨d, hd⟩ := hx
    have hinf : x d = ⊤ ∨ x d = ⊥ := by
      by_cases h : x d = ⊤
      · exact .inl h
      · exact .inr (hd h)
    have hsq : x d * x d = ⊤ := by rcases hinf with h | h <;> rw [h] <;> rfl
    rw [sum_sq_top x d hsq]
    refine ⟨fun h => ?_, fun h => ?_⟩
    · exfalso
      generalize 2 * (∑ d, x d * (k d : EReal)) = a at h
      induction a using EReal.rec with
      | bot => simp at h
      | coe a => simp at h
      | top => simp at h
    · exfalso
      rcases hinf with h' | h' <;> rw [h d] at h'
      · exact EReal.coe_ne_top _ h'
      · exact EReal.coe_ne_bot _ h'

end Cert.Lookup

end
-- ==== Proof.ReferenceOps.lean ====
/-
  The reference's operations. The reference is a program of host operations only, so its final memory is the composition of
  those operations on the arguments; here that composition is given names (`chunkEq`, `chunkAny`, `chunkFirst`, `found`,
  `hitIdx`, `taken`, `linear`, `out`), and each stretch of
  the program is shown to leave them in its buffers (ReferenceRun.lean puts the stretches together).
-/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunHlo
public import Idealize.ShloMosaic.Adequacy
public import Idealize.ShloMosaic.Init

@[expose] public section

set_option maxRecDepth 4096

noncomputable section

namespace Cert.ReferenceRun

open Idealize.ShloMosaic Idealize.ShloMosaic.TcCoe Idealize.ShloMosaic.StableHlo Idealize.SL.Sem
open Cert.ReferenceIdeal Cert.ReferenceIdeal.Gen

/-- `all(xc[:, None, :] == X[None], axis=-1)`: which of the 128 queries `xc` equals which key, at all 64 features. -/
def chunkEq (xc : FVec Ideal S128x64 .f32) (X : FVec Ideal S8192x64 .f32) : IVec S128x8192 1 :=
  Host.reduce IntOp.andi
    (cmpf .oeq
      (broadcastInDim S128x8192x64 ![0, 1, 2] bcast_S128x1x64_S128x8192x64_0_1_2
        (broadcastInDim S128x1x64 ![0, 2] bcast_S128x64_S128x1x64_0_2 xc))
      (broadcastInDim S128x8192x64 ![0, 1, 2] bcast_S1x8192x64_S128x8192x64_0_1_2
        (broadcastInDim S1x8192x64 ![1, 2] bcast_S8192x64_S1x8192x64_1_2 X)))
    (constantI S_ 1 1#1) reducesTo_S128x8192x64_S128x8192_d2 h_S_

/-- `any(eq, axis=1)`: whether a query of the chunk has an equal key. -/
def chunkAny (e : IVec S128x8192 1) : IVec S128 1 :=
  Host.reduce IntOp.ori e (constantI S_ 1 0#1) reducesTo_S128x8192_S128_d1 h_S_

/-- `argmax(eq, axis=1)`: the first equal key of each query of the chunk. -/
def chunkFirst (e : IVec S128x8192 1) : IVec S128 32 := fun j =>
  (Host.reduce2 reducer_argmax_i1_i32 e (iotaInDim S128x8192 32 1) (constantI S_ 1 0#1) (constantI S_ 32 0#32)
    reducesTo_S128x8192_S128_d1 h_S_ j).2

/-- The chunk of 128 queries at the offset `off`. -/
def chunk (x : FVec Ideal S1024x64 .f32) (off : Fin 2 → Nat) (hs : S1024x64.Slices off S128x64) : FVec Ideal S128x64 .f32 :=
  extractStridedSlice S128x64 off x hs

/-- The key comparisons of the chunk at the offset `off`. -/
def eqAt (x : FVec Ideal S1024x64 .f32) (X : FVec Ideal S8192x64 .f32) (off : Fin 2 → Nat)
    (hs : S1024x64.Slices off S128x64) : IVec S128x8192 1 :=
  chunkEq (chunk x off hs) X

/-- The eight chunks, joined. -/
def joinAny (u : Fin 8 → IVec S128 1) : IVec S1024 1 :=
  concatenate S1024 0 [⟨S128, u 0⟩, ⟨S128, u 1⟩, ⟨S128, u 2⟩, ⟨S128, u 3⟩, ⟨S128, u 4⟩, ⟨S128, u 5⟩, ⟨S128, u 6⟩, ⟨S128, u 7⟩]
    concatenates_S128_S128_S128_S128_S128_S128_S128_S128_S1024_d0

/-- The eight chunks of indices, joined. -/
def joinFirst (u : Fin 8 → IVec S128 32) : IVec S1024 32 :=
  concatenate S1024 0 [⟨S128, u 0⟩, ⟨S128, u 1⟩, ⟨S128, u 2⟩, ⟨S128, u 3⟩, ⟨S128, u 4⟩, ⟨S128, u 5⟩, ⟨S128, u 6⟩, ⟨S128, u 7⟩]
    concatenates_S128_S128_S128_S128_S128_S128_S128_S128_S1024_d0

/-- The chunks' `any`, joined. -/
def found (x : FVec Ideal S1024x64 .f32) (X : FVec Ideal S8192x64 .f32) : IVec S1024 1 :=
  joinAny
    ![chunkAny (eqAt x X ![0, 0] slices_S1024x64_S128x64_0_0), chunkAny (eqAt x X ![128, 0] slices_S1024x64_S128x64_128_0),
      chunkAny (eqAt x X ![256, 0] slices_S1024x64_S128x64_256_0), chunkAny (eqAt x X ![384, 0] slices_S1024x64_S128x64_384_0),
      chunkAny (eqAt x X ![512, 0] slices_S1024x64_S128x64_512_0), chunkAny (eqAt x X ![640, 0] slices_S1024x64_S128x64_640_0),
      chunkAny (eqAt x X ![768, 0] slices_S1024x64_S128x64_768_0), chunkAny (eqAt x X ![896, 0] slices_S1024x64_S128x64_896_0)]

/-- The chunks' `argmax`, joined. -/
def hitIdx (x : FVec Ideal S1024x64 .f32) (X : FVec Ideal S8192x64 .f32) : IVec S1024 32 :=
  joinFirst
    ![chunkFirst (eqAt x X ![0, 0] slices_S1024x64_S128x64_0_0), chunkFirst (eqAt x X ![128, 0] slices_S1024x64_S128x64_128_0),
      chunkFirst (eqAt x X ![256, 0] slices_S1024x64_S128x64_256_0), chunkFirst (eqAt x X ![384, 0] slices_S1024x64_S128x64_384_0),
      chunkFirst (eqAt x X ![512, 0] slices_S1024x64_S128x64_512_0), chunkFirst (eqAt x X ![640, 0] slices_S1024x64_S128x64_640_0),
      chunkFirst (eqAt x X ![768, 0] slices_S1024x64_S128x64_768_0), chunkFirst (eqAt x X ![896, 0] slices_S1024x64_S128x64_896_0)]

/-- `take`'s index column: a negative index counts from the end. -/
def column (i : IVec S1024 32) : IVec S1024x1 32 :=
  broadcastInDim S1024x1 ![0] bcast_S1024_S1024x1_0
    (select (cmpi .slt i (broadcastInDim S1024 ![] bcast_S_S1024 (constantI S_ 32 0#32)))
      (addi i (broadcastInDim S1024 ![] bcast_S_S1024 (constantI S_ 32 8192#32))) i)

/-- `take(y, i)`: the gathered values, and the fill value at an index out of range. -/
def taken (y : FVec Ideal S8192 .f32) (i : IVec S1024 32) : FVec Ideal S1024 .f32 :=
  select
    (Host.reduce IntOp.andi
      (andi (cmpi .sge (column i) (broadcastInDim S1024x1 ![] bcast_S_S1024x1 (constantI S_ 32 0#32)))
        (cmpi .sle (column i)
          (broadcastInDim S1024x1 ![0, 1] bcast_S1x1_S1024x1_0_1
            (broadcastInDim S1x1 ![1] bcast_S1_S1x1_1 (constantI S1 32 8191#32)))))
      (constantI S_ 1 1#1) reducesTo_S1024x1_S1024_d1 h_S_)
    (Host.gather gather_S8192_S1024x1_S1024_n_0_n_n_0_1_1 y (column i))
    (broadcastInDim S1024 ![] bcast_S_S1024 (constant S_ .f32 0x7FC00000#32))

/-- `x @ W.T + b`. -/
def linear (x : FVec Ideal S1024x64 .f32) (W : FVec Ideal S1x64 .f32) (b : FVec Ideal S1 .f32) : FVec Ideal S1024x1 .f32 :=
  addf
    (Host.dotGeneral dot_S1024x64_S64x1_S1024x1_1_0_0_1_n_n none x (transpose S64x1 [1, 0] W transposes_S1x64_S64x1_1_0))
    (broadcastInDim S1024x1 ![0, 1] bcast_S1x1_S1024x1_0_1 (broadcastInDim S1x1 ![1] bcast_S1_S1x1_1 b))

/-- The reference's result. -/
def out (x : FVec Ideal S1024x64 .f32) (X : FVec Ideal S8192x64 .f32) (y : FVec Ideal S8192 .f32)
    (W : FVec Ideal S1x64 .f32) (b : FVec Ideal S1 .f32) : FVec Ideal S1024x1 .f32 :=
  shapeCast S1024x1
    (select (found x X) (taken y (hitIdx x X)) (shapeCast S1024 (linear x W b) shapeCasts_S1024x1_S1024))
    shapeCasts_S1024_S1024x1

/-! ## The operations, in segments

@main is one line of operations: fifteen per chunk of queries, the two concatenates, and the rest. -/

/-! The functions of one chunk's operations are variables here: what the operations leave in their buffers is a
composition of these, whatever they are. -/

section
variable (slice : FVec Ideal S1024x64 .f32 → FVec Ideal S128x64 .f32)
  (query : FVec Ideal S128x64 .f32 → FVec Ideal S128x1x64 .f32)
  (key : FVec Ideal S8192x64 .f32 → FVec Ideal S1x8192x64 .f32)
  (queries : FVec Ideal S128x1x64 .f32 → FVec Ideal S128x8192x64 .f32)
  (keys : FVec Ideal S1x8192x64 .f32 → FVec Ideal S128x8192x64 .f32)
  (same : FVec Ideal S128x8192x64 .f32 → FVec Ideal S128x8192x64 .f32 → IVec S128x8192x64 1)
  (yes : IVec S_ 1)
  (all : IVec S128x8192x64 1 → IVec S_ 1 → IVec S128x8192 1)
  (no : IVec S_ 1)
  (any : IVec S128x8192 1 → IVec S_ 1 → IVec S128 1)
  (lane : IVec S128x8192 32)
  (zero : IVec S_ 32)
  (top : IVec S128x8192 1 → IVec S128x8192 32 → IVec S_ 1 → IVec S_ 32 → IVec S128 1)
  (arg : IVec S128x8192 1 → IVec S128x8192 32 → IVec S_ 1 → IVec S_ 32 → IVec S128 32)

/-- What the helper function `argmax` runs, over its operand, its buffers and the functions. -/
def argmaxOps (x : TRef sig ⟨S128x8192, .i1⟩) (φ : fn_argmax.Bufs) : List (HloOp τ sig (Elt Ideal)) :=
  [ TRef.nullary φ.v0 lane,
    TRef.nullary φ.c no,
    TRef.nullary φ.c_0 zero,
    TRef.quaternary x φ.v0 φ.c φ.c_0 φ.v1_0 top,
    TRef.quaternary x φ.v0 φ.c φ.c_0 φ.v1_1 arg ]

/-- The operations of chunk 0. -/
def ops0 : List (HloOp τ sig (Elt Ideal)) :=
  [ unary main_arg0 main_v0 slice,
    unary main_v0 main_v1 query,
    unary main_arg1 main_v2 key,
    unary main_v1 main_v3 queries,
    unary main_v2 main_v4 keys,
    binary main_v3 main_v4 main_v5 same,
    nullary main_c yes,
    binary main_v5 main_c main_v6 all,
    nullary main_c_0 no,
    binary main_v6 main_c_0 main_v7 any ] ++ argmaxOps no lane zero top arg (.of main_v6) main_call0

/-- What they write. -/
def writes0 : List (Ref sig .tc) :=
  [main_v0, main_v1, main_v2, main_v3, main_v4, main_v5, main_c, main_v6, main_c_0, main_v7,
    main_call0_v0, main_call0_c, main_call0_c_0, main_call0_v1_0, main_v8]

theorem keep0 {r : Ref sig .tc} (hr : r ∉ writes0) (V : Valuation τ sig (Elt Ideal)) :
    after (ops0 slice query key queries keys same yes all no any lane zero top arg) V (r : DevRef τ sig) = V (r : DevRef τ sig) :=
  after_of_writes_sub (W := writes0) (ops0 slice query key queries keys same yes all no any lane zero top arg) V (forall_writes_sub_of_map rfl) hr

theorem any0 (V : Valuation τ sig (Elt Ideal)) :
    after (ops0 slice query key queries keys same yes all no any lane zero top arg) V (main_v7 : DevRef τ sig)
      = any (all (same (queries (query (slice (V (main_arg0 : DevRef τ sig))))) (keys (key (V (main_arg1 : DevRef τ sig))))) yes) no := by
  unfold ops0 argmaxOps
  simp only [List.cons_append, List.nil_append]
  after_results

theorem first0 (V : Valuation τ sig (Elt Ideal)) :
    after (ops0 slice query key queries keys same yes all no any lane zero top arg) V (main_v8 : DevRef τ sig)
      = arg (all (same (queries (query (slice (V (main_arg0 : DevRef τ sig))))) (keys (key (V (main_arg1 : DevRef τ sig))))) yes) lane no zero := by
  unfold ops0 argmaxOps
  simp only [List.cons_append, List.nil_append]
  after_results
  simp only [TRef.toBuf, TRef.ofBuf, cast_eq]

/-- The operations of chunk 1. -/
def ops1 : List (HloOp τ sig (Elt Ideal)) :=
  [ unary main_arg0 main_v9 slice,
    unary main_v9 main_v10 query,
    unary main_arg1 main_v11 key,
    unary main_v10 main_v12 queries,
    unary main_v11 main_v13 keys,
    binary main_v12 main_v13 main_v14 same,
    nullary main_c_1 yes,
    binary main_v14 main_c_1 main_v15 all,
    nullary main_c_2 no,
    binary main_v15 main_c_2 main_v16 any ] ++ argmaxOps no lane zero top arg (.of main_v15) main_call1

/-- What they write. -/
def writes1 : List (Ref sig .tc) :=
  [main_v9, main_v10, main_v11, main_v12, main_v13, main_v14, main_c_1, main_v15, main_c_2, main_v16,
    main_call1_v0, main_call1_c, main_call1_c_0, main_call1_v1_0, main_v17]

theorem keep1 {r : Ref sig .tc} (hr : r ∉ writes1) (V : Valuation τ sig (Elt Ideal)) :
    after (ops1 slice query key queries keys same yes all no any lane zero top arg) V (r : DevRef τ sig) = V (r : DevRef τ sig) :=
  after_of_writes_sub (W := writes1) (ops1 slice query key queries keys same yes all no any lane zero top arg) V (forall_writes_sub_of_map rfl) hr

theorem any1 (V : Valuation τ sig (Elt Ideal)) :
    after (ops1 slice query key queries keys same yes all no any lane zero top arg) V (main_v16 : DevRef τ sig)
      = any (all (same (queries (query (slice (V (main_arg0 : DevRef τ sig))))) (keys (key (V (main_arg1 : DevRef τ sig))))) yes) no := by
  unfold ops1 argmaxOps
  simp only [List.cons_append, List.nil_append]
  after_results

theorem first1 (V : Valuation τ sig (Elt Ideal)) :
    after (ops1 slice query key queries keys same yes all no any lane zero top arg) V (main_v17 : DevRef τ sig)
      = arg (all (same (queries (query (slice (V (main_arg0 : DevRef τ sig))))) (keys (key (V (main_arg1 : DevRef τ sig))))) yes) lane no zero := by
  unfold ops1 argmaxOps
  simp only [List.cons_append, List.nil_append]
  after_results
  simp only [TRef.toBuf, TRef.ofBuf, cast_eq]

/-- The operations of chunk 2. -/
def ops2 : List (HloOp τ sig (Elt Ideal)) :=
  [ unary main_arg0 main_v18 slice,
    unary main_v18 main_v19 query,
    unary main_arg1 main_v20 key,
    unary main_v19 main_v21 queries,
    unary main_v20 main_v22 keys,
    binary main_v21 main_v22 main_v23 same,
    nullary main_c_3 yes,
    binary main_v23 main_c_3 main_v24 all,
    nullary main_c_4 no,
    binary main_v24 main_c_4 main_v25 any ] ++ argmaxOps no lane zero top arg (.of main_v24) main_call2

/-- What they write. -/
def writes2 : List (Ref sig .tc) :=
  [main_v18, main_v19, main_v20, main_v21, main_v22, main_v23, main_c_3, main_v24, main_c_4, main_v25,
    main_call2_v0, main_call2_c, main_call2_c_0, main_call2_v1_0, main_v26]

theorem keep2 {r : Ref sig .tc} (hr : r ∉ writes2) (V : Valuation τ sig (Elt Ideal)) :
    after (ops2 slice query key queries keys same yes all no any lane zero top arg) V (r : DevRef τ sig) = V (r : DevRef τ sig) :=
  after_of_writes_sub (W := writes2) (ops2 slice query key queries keys same yes all no any lane zero top arg) V (forall_writes_sub_of_map rfl) hr

theorem any2 (V : Valuation τ sig (Elt Ideal)) :
    after (ops2 slice query key queries keys same yes all no any lane zero top arg) V (main_v25 : DevRef τ sig)
      = any (all (same (queries (query (slice (V (main_arg0 : DevRef τ sig))))) (keys (key (V (main_arg1 : DevRef τ sig))))) yes) no := by
  unfold ops2 argmaxOps
  simp only [List.cons_append, List.nil_append]
  after_results

theorem first2 (V : Valuation τ sig (Elt Ideal)) :
    after (ops2 slice query key queries keys same yes all no any lane zero top arg) V (main_v26 : DevRef τ sig)
      = arg (all (same (queries (query (slice (V (main_arg0 : DevRef τ sig))))) (keys (key (V (main_arg1 : DevRef τ sig))))) yes) lane no zero := by
  unfold ops2 argmaxOps
  simp only [List.cons_append, List.nil_append]
  after_results
  simp only [TRef.toBuf, TRef.ofBuf, cast_eq]

/-- The operations of chunk 3. -/
def ops3 : List (HloOp τ sig (Elt Ideal)) :=
  [ unary main_arg0 main_v27 slice,
    unary main_v27 main_v28 query,
    unary main_arg1 main_v29 key,
    unary main_v28 main_v30 queries,
    unary main_v29 main_v31 keys,
    binary main_v30 main_v31 main_v32 same,
    nullary main_c_5 yes,
    binary main_v32 main_c_5 main_v33 all,
    nullary main_c_6 no,
    binary main_v33 main_c_6 main_v34 any ] ++ argmaxOps no lane zero top arg (.of main_v33) main_call3

/-- What they write. -/
def writes3 : List (Ref sig .tc) :=
  [main_v27, main_v28, main_v29, main_v30, main_v31, main_v32, main_c_5, main_v33, main_c_6, main_v34,
    main_call3_v0, main_call3_c, main_call3_c_0, main_call3_v1_0, main_v35]

theorem keep3 {r : Ref sig .tc} (hr : r ∉ writes3) (V : Valuation τ sig (Elt Ideal)) :
    after (ops3 slice query key queries keys same yes all no any lane zero top arg) V (r : DevRef τ sig) = V (r : DevRef τ sig) :=
  after_of_writes_sub (W := writes3) (ops3 slice query key queries keys same yes all no any lane zero top arg) V (forall_writes_sub_of_map rfl) hr

theorem any3 (V : Valuation τ sig (Elt Ideal)) :
    after (ops3 slice query key queries keys same yes all no any lane zero top arg) V (main_v34 : DevRef τ sig)
      = any (all (same (queries (query (slice (V (main_arg0 : DevRef τ sig))))) (keys (key (V (main_arg1 : DevRef τ sig))))) yes) no := by
  unfold ops3 argmaxOps
  simp only [List.cons_append, List.nil_append]
  after_results

theorem first3 (V : Valuation τ sig (Elt Ideal)) :
    after (ops3 slice query key queries keys same yes all no any lane zero top arg) V (main_v35 : DevRef τ sig)
      = arg (all (same (queries (query (slice (V (main_arg0 : DevRef τ sig))))) (keys (key (V (main_arg1 : DevRef τ sig))))) yes) lane no zero := by
  unfold ops3 argmaxOps
  simp only [List.cons_append, List.nil_append]
  after_results
  simp only [TRef.toBuf, TRef.ofBuf, cast_eq]

/-- The operations of chunk 4. -/
def ops4 : List (HloOp τ sig (Elt Ideal)) :=
  [ unary main_arg0 main_v36 slice,
    unary main_v36 main_v37 query,
    unary main_arg1 main_v38 key,
    unary main_v37 main_v39 queries,
    unary main_v38 main_v40 keys,
    binary main_v39 main_v40 main_v41 same,
    nullary main_c_7 yes,
    binary main_v41 main_c_7 main_v42 all,
    nullary main_c_8 no,
    binary main_v42 main_c_8 main_v43 any ] ++ argmaxOps no lane zero top arg (.of main_v42) main_call4

/-- What they write. -/
def writes4 : List (Ref sig .tc) :=
  [main_v36, main_v37, main_v38, main_v39, main_v40, main_v41, main_c_7, main_v42, main_c_8, main_v43,
    main_call4_v0, main_call4_c, main_call4_c_0, main_call4_v1_0, main_v44]

theorem keep4 {r : Ref sig .tc} (hr : r ∉ writes4) (V : Valuation τ sig (Elt Ideal)) :
    after (ops4 slice query key queries keys same yes all no any lane zero top arg) V (r : DevRef τ sig) = V (r : DevRef τ sig) :=
  after_of_writes_sub (W := writes4) (ops4 slice query key queries keys same yes all no any lane zero top arg) V (forall_writes_sub_of_map rfl) hr

theorem any4 (V : Valuation τ sig (Elt Ideal)) :
    after (ops4 slice query key queries keys same yes all no any lane zero top arg) V (main_v43 : DevRef τ sig)
      = any (all (same (queries (query (slice (V (main_arg0 : DevRef τ sig))))) (keys (key (V (main_arg1 : DevRef τ sig))))) yes) no := by
  unfold ops4 argmaxOps
  simp only [List.cons_append, List.nil_append]
  after_results

theorem first4 (V : Valuation τ sig (Elt Ideal)) :
    after (ops4 slice query key queries keys same yes all no any lane zero top arg) V (main_v44 : DevRef τ sig)
      = arg (all (same (queries (query (slice (V (main_arg0 : DevRef τ sig))))) (keys (key (V (main_arg1 : DevRef τ sig))))) yes) lane no zero := by
  unfold ops4 argmaxOps
  simp only [List.cons_append, List.nil_append]
  after_results
  simp only [TRef.toBuf, TRef.ofBuf, cast_eq]

/-- The operations of chunk 5. -/
def ops5 : List (HloOp τ sig (Elt Ideal)) :=
  [ unary main_arg0 main_v45 slice,
    unary main_v45 main_v46 query,
    unary main_arg1 main_v47 key,
    unary main_v46 main_v48 queries,
    unary main_v47 main_v49 keys,
    binary main_v48 main_v49 main_v50 same,
    nullary main_c_9 yes,
    binary main_v50 main_c_9 main_v51 all,
    nullary main_c_10 no,
    binary main_v51 main_c_10 main_v52 any ] ++ argmaxOps no lane zero top arg (.of main_v51) main_call5

/-- What they write. -/
def writes5 : List (Ref sig .tc) :=
  [main_v45, main_v46, main_v47, main_v48, main_v49, main_v50, main_c_9, main_v51, main_c_10, main_v52,
    main_call5_v0, main_call5_c, main_call5_c_0, main_call5_v1_0, main_v53]

theorem keep5 {r : Ref sig .tc} (hr : r ∉ writes5) (V : Valuation τ sig (Elt Ideal)) :
    after (ops5 slice query key queries keys same yes all no any lane zero top arg) V (r : DevRef τ sig) = V (r : DevRef τ sig) :=
  after_of_writes_sub (W := writes5) (ops5 slice query key queries keys same yes all no any lane zero top arg) V (forall_writes_sub_of_map rfl) hr

theorem any5 (V : Valuation τ sig (Elt Ideal)) :
    after (ops5 slice query key queries keys same yes all no any lane zero top arg) V (main_v52 : DevRef τ sig)
      = any (all (same (queries (query (slice (V (main_arg0 : DevRef τ sig))))) (keys (key (V (main_arg1 : DevRef τ sig))))) yes) no := by
  unfold ops5 argmaxOps
  simp only [List.cons_append, List.nil_append]
  after_results

theorem first5 (V : Valuation τ sig (Elt Ideal)) :
    after (ops5 slice query key queries keys same yes all no any lane zero top arg) V (main_v53 : DevRef τ sig)
      = arg (all (same (queries (query (slice (V (main_arg0 : DevRef τ sig))))) (keys (key (V (main_arg1 : DevRef τ sig))))) yes) lane no zero := by
  unfold ops5 argmaxOps
  simp only [List.cons_append, List.nil_append]
  after_results
  simp only [TRef.toBuf, TRef.ofBuf, cast_eq]

/-- The operations of chunk 6. -/
def ops6 : List (HloOp τ sig (Elt Ideal)) :=
  [ unary main_arg0 main_v54 slice,
    unary main_v54 main_v55 query,
    unary main_arg1 main_v56 key,
    unary main_v55 main_v57 queries,
    unary main_v56 main_v58 keys,
    binary main_v57 main_v58 main_v59 same,
    nullary main_c_11 yes,
    binary main_v59 main_c_11 main_v60 all,
    nullary main_c_12 no,
    binary main_v60 main_c_12 main_v61 any ] ++ argmaxOps no lane zero top arg (.of main_v60) main_call6

/-- What they write. -/
def writes6 : List (Ref sig .tc) :=
  [main_v54, main_v55, main_v56, main_v57, main_v58, main_v59, main_c_11, main_v60, main_c_12, main_v61,
    main_call6_v0, main_call6_c, main_call6_c_0, main_call6_v1_0, main_v62]

theorem keep6 {r : Ref sig .tc} (hr : r ∉ writes6) (V : Valuation τ sig (Elt Ideal)) :
    after (ops6 slice query key queries keys same yes all no any lane zero top arg) V (r : DevRef τ sig) = V (r : DevRef τ sig) :=
  after_of_writes_sub (W := writes6) (ops6 slice query key queries keys same yes all no any lane zero top arg) V (forall_writes_sub_of_map rfl) hr

theorem any6 (V : Valuation τ sig (Elt Ideal)) :
    after (ops6 slice query key queries keys same yes all no any lane zero top arg) V (main_v61 : DevRef τ sig)
      = any (all (same (queries (query (slice (V (main_arg0 : DevRef τ sig))))) (keys (key (V (main_arg1 : DevRef τ sig))))) yes) no := by
  unfold ops6 argmaxOps
  simp only [List.cons_append, List.nil_append]
  after_results

theorem first6 (V : Valuation τ sig (Elt Ideal)) :
    after (ops6 slice query key queries keys same yes all no any lane zero top arg) V (main_v62 : DevRef τ sig)
      = arg (all (same (queries (query (slice (V (main_arg0 : DevRef τ sig))))) (keys (key (V (main_arg1 : DevRef τ sig))))) yes) lane no zero := by
  unfold ops6 argmaxOps
  simp only [List.cons_append, List.nil_append]
  after_results
  simp only [TRef.toBuf, TRef.ofBuf, cast_eq]

/-- The operations of chunk 7. -/
def ops7 : List (HloOp τ sig (Elt Ideal)) :=
  [ unary main_arg0 main_v63 slice,
    unary main_v63 main_v64 query,
    unary main_arg1 main_v65 key,
    unary main_v64 main_v66 queries,
    unary main_v65 main_v67 keys,
    binary main_v66 main_v67 main_v68 same,
    nullary main_c_13 yes,
    binary main_v68 main_c_13 main_v69 all,
    nullary main_c_14 no,
    binary main_v69 main_c_14 main_v70 any ] ++ argmaxOps no lane zero top arg (.of main_v69) main_call7

/-- What they write. -/
def writes7 : List (Ref sig .tc) :=
  [main_v63, main_v64, main_v65, main_v66, main_v67, main_v68, main_c_13, main_v69, main_c_14, main_v70,
    main_call7_v0, main_call7_c, main_call7_c_0, main_call7_v1_0, main_v71]

theorem keep7 {r : Ref sig .tc} (hr : r ∉ writes7) (V : Valuation τ sig (Elt Ideal)) :
    after (ops7 slice query key queries keys same yes all no any lane zero top arg) V (r : DevRef τ sig) = V (r : DevRef τ sig) :=
  after_of_writes_sub (W := writes7) (ops7 slice query key queries keys same yes all no any lane zero top arg) V (forall_writes_sub_of_map rfl) hr

theorem any7 (V : Valuation τ sig (Elt Ideal)) :
    after (ops7 slice query key queries keys same yes all no any lane zero top arg) V (main_v70 : DevRef τ sig)
      = any (all (same (queries (query (slice (V (main_arg0 : DevRef τ sig))))) (keys (key (V (main_arg1 : DevRef τ sig))))) yes) no := by
  unfold ops7 argmaxOps
  simp only [List.cons_append, List.nil_append]
  after_results

theorem first7 (V : Valuation τ sig (Elt Ideal)) :
    after (ops7 slice query key queries keys same yes all no any lane zero top arg) V (main_v71 : DevRef τ sig)
      = arg (all (same (queries (query (slice (V (main_arg0 : DevRef τ sig))))) (keys (key (V (main_arg1 : DevRef τ sig))))) yes) lane no zero := by
  unfold ops7 argmaxOps
  simp only [List.cons_append, List.nil_append]
  after_results
  simp only [TRef.toBuf, TRef.ofBuf, cast_eq]

end

/-- A family over a chunk's functions, at the program's functions for the chunk at the offset `off`. -/
def atProgram {α : Type} (off : Fin 2 → Nat) (hs : S1024x64.Slices off S128x64)
    (k : (FVec Ideal S1024x64 .f32 → FVec Ideal S128x64 .f32) → (FVec Ideal S128x64 .f32 → FVec Ideal S128x1x64 .f32)
      → (FVec Ideal S8192x64 .f32 → FVec Ideal S1x8192x64 .f32) → (FVec Ideal S128x1x64 .f32 → FVec Ideal S128x8192x64 .f32)
      → (FVec Ideal S1x8192x64 .f32 → FVec Ideal S128x8192x64 .f32)
      → (FVec Ideal S128x8192x64 .f32 → FVec Ideal S128x8192x64 .f32 → IVec S128x8192x64 1) → IVec S_ 1
      → (IVec S128x8192x64 1 → IVec S_ 1 → IVec S128x8192 1) → IVec S_ 1 → (IVec S128x8192 1 → IVec S_ 1 → IVec S128 1)
      → IVec S128x8192 32 → IVec S_ 32
      → (IVec S128x8192 1 → IVec S128x8192 32 → IVec S_ 1 → IVec S_ 32 → IVec S128 1)
      → (IVec S128x8192 1 → IVec S128x8192 32 → IVec S_ 1 → IVec S_ 32 → IVec S128 32) → α) : α :=
  k (fun x => extractStridedSlice S128x64 off x hs)
    (fun x => broadcastInDim S128x1x64 ![0, 2] bcast_S128x64_S128x1x64_0_2 x)
    (fun x => broadcastInDim S1x8192x64 ![1, 2] bcast_S8192x64_S1x8192x64_1_2 x)
    (fun x => broadcastInDim S128x8192x64 ![0, 1, 2] bcast_S128x1x64_S128x8192x64_0_1_2 x)
    (fun x => broadcastInDim S128x8192x64 ![0, 1, 2] bcast_S1x8192x64_S128x8192x64_0_1_2 x)
    (fun x y => cmpf .oeq x y)
    (constantI S_ 1 1#1)
    (fun x v => Host.reduce IntOp.andi x v reducesTo_S128x8192x64_S128x8192_d2 h_S_)
    (constantI S_ 1 0#1)
    (fun x v => Host.reduce IntOp.ori x v reducesTo_S128x8192_S128_d1 h_S_)
    (iotaInDim S128x8192 32 1)
    (constantI S_ 32 0#32)
    (fun x y u v j => (Host.reduce2 reducer_argmax_i1_i32 x y u v reducesTo_S128x8192_S128_d1 h_S_ j).1)
    (fun x y u v j => (Host.reduce2 reducer_argmax_i1_i32 x y u v reducesTo_S128x8192_S128_d1 h_S_ j).2)

theorem any0_eq (V : Valuation τ sig (Elt Ideal)) :
    after (atProgram ![0, 0] slices_S1024x64_S128x64_0_0 ops0) V (main_v7 : DevRef τ sig)
      = chunkAny (eqAt (V (main_arg0 : DevRef τ sig)) (V (main_arg1 : DevRef τ sig)) ![0, 0] slices_S1024x64_S128x64_0_0) := by
  rw [atProgram, any0, chunkAny, eqAt, chunkEq, chunk]

theorem first0_eq (V : Valuation τ sig (Elt Ideal)) :
    after (atProgram ![0, 0] slices_S1024x64_S128x64_0_0 ops0) V (main_v8 : DevRef τ sig)
      = chunkFirst (eqAt (V (main_arg0 : DevRef τ sig)) (V (main_arg1 : DevRef τ sig)) ![0, 0] slices_S1024x64_S128x64_0_0) := by
  rw [atProgram, first0]
  unfold chunkFirst
  rw [eqAt, chunkEq, chunk]

theorem any1_eq (V : Valuation τ sig (Elt Ideal)) :
    after (atProgram ![128, 0] slices_S1024x64_S128x64_128_0 ops1) V (main_v16 : DevRef τ sig)
      = chunkAny (eqAt (V (main_arg0 : DevRef τ sig)) (V (main_arg1 : DevRef τ sig)) ![128, 0] slices_S1024x64_S128x64_128_0) := by
  rw [atProgram, any1, chunkAny, eqAt, chunkEq, chunk]

theorem first1_eq (V : Valuation τ sig (Elt Ideal)) :
    after (atProgram ![128, 0] slices_S1024x64_S128x64_128_0 ops1) V (main_v17 : DevRef τ sig)
      = chunkFirst (eqAt (V (main_arg0 : DevRef τ sig)) (V (main_arg1 : DevRef τ sig)) ![128, 0] slices_S1024x64_S128x64_128_0) := by
  rw [atProgram, first1]
  unfold chunkFirst
  rw [eqAt, chunkEq, chunk]

theorem any2_eq (V : Valuation τ sig (Elt Ideal)) :
    after (atProgram ![256, 0] slices_S1024x64_S128x64_256_0 ops2) V (main_v25 : DevRef τ sig)
      = chunkAny (eqAt (V (main_arg0 : DevRef τ sig)) (V (main_arg1 : DevRef τ sig)) ![256, 0] slices_S1024x64_S128x64_256_0) := by
  rw [atProgram, any2, chunkAny, eqAt, chunkEq, chunk]

theorem first2_eq (V : Valuation τ sig (Elt Ideal)) :
    after (atProgram ![256, 0] slices_S1024x64_S128x64_256_0 ops2) V (main_v26 : DevRef τ sig)
      = chunkFirst (eqAt (V (main_arg0 : DevRef τ sig)) (V (main_arg1 : DevRef τ sig)) ![256, 0] slices_S1024x64_S128x64_256_0) := by
  rw [atProgram, first2]
  unfold chunkFirst
  rw [eqAt, chunkEq, chunk]

theorem any3_eq (V : Valuation τ sig (Elt Ideal)) :
    after (atProgram ![384, 0] slices_S1024x64_S128x64_384_0 ops3) V (main_v34 : DevRef τ sig)
      = chunkAny (eqAt (V (main_arg0 : DevRef τ sig)) (V (main_arg1 : DevRef τ sig)) ![384, 0] slices_S1024x64_S128x64_384_0) := by
  rw [atProgram, any3, chunkAny, eqAt, chunkEq, chunk]

theorem first3_eq (V : Valuation τ sig (Elt Ideal)) :
    after (atProgram ![384, 0] slices_S1024x64_S128x64_384_0 ops3) V (main_v35 : DevRef τ sig)
      = chunkFirst (eqAt (V (main_arg0 : DevRef τ sig)) (V (main_arg1 : DevRef τ sig)) ![384, 0] slices_S1024x64_S128x64_384_0) := by
  rw [atProgram, first3]
  unfold chunkFirst
  rw [eqAt, chunkEq, chunk]

theorem any4_eq (V : Valuation τ sig (Elt Ideal)) :
    after (atProgram ![512, 0] slices_S1024x64_S128x64_512_0 ops4) V (main_v43 : DevRef τ sig)
      = chunkAny (eqAt (V (main_arg0 : DevRef τ sig)) (V (main_arg1 : DevRef τ sig)) ![512, 0] slices_S1024x64_S128x64_512_0) := by
  rw [atProgram, any4, chunkAny, eqAt, chunkEq, chunk]

theorem first4_eq (V : Valuation τ sig (Elt Ideal)) :
    after (atProgram ![512, 0] slices_S1024x64_S128x64_512_0 ops4) V (main_v44 : DevRef τ sig)
      = chunkFirst (eqAt (V (main_arg0 : DevRef τ sig)) (V (main_arg1 : DevRef τ sig)) ![512, 0] slices_S1024x64_S128x64_512_0) := by
  rw [atProgram, first4]
  unfold chunkFirst
  rw [eqAt, chunkEq, chunk]

theorem any5_eq (V : Valuation τ sig (Elt Ideal)) :
    after (atProgram ![640, 0] slices_S1024x64_S128x64_640_0 ops5) V (main_v52 : DevRef τ sig)
      = chunkAny (eqAt (V (main_arg0 : DevRef τ sig)) (V (main_arg1 : DevRef τ sig)) ![640, 0] slices_S1024x64_S128x64_640_0) := by
  rw [atProgram, any5, chunkAny, eqAt, chunkEq, chunk]

theorem first5_eq (V : Valuation τ sig (Elt Ideal)) :
    after (atProgram ![640, 0] slices_S1024x64_S128x64_640_0 ops5) V (main_v53 : DevRef τ sig)
      = chunkFirst (eqAt (V (main_arg0 : DevRef τ sig)) (V (main_arg1 : DevRef τ sig)) ![640, 0] slices_S1024x64_S128x64_640_0) := by
  rw [atProgram, first5]
  unfold chunkFirst
  rw [eqAt, chunkEq, chunk]

theorem any6_eq (V : Valuation τ sig (Elt Ideal)) :
    after (atProgram ![768, 0] slices_S1024x64_S128x64_768_0 ops6) V (main_v61 : DevRef τ sig)
      = chunkAny (eqAt (V (main_arg0 : DevRef τ sig)) (V (main_arg1 : DevRef τ sig)) ![768, 0] slices_S1024x64_S128x64_768_0) := by
  rw [atProgram, any6, chunkAny, eqAt, chunkEq, chunk]

theorem first6_eq (V : Valuation τ sig (Elt Ideal)) :
    after (atProgram ![768, 0] slices_S1024x64_S128x64_768_0 ops6) V (main_v62 : DevRef τ sig)
      = chunkFirst (eqAt (V (main_arg0 : DevRef τ sig)) (V (main_arg1 : DevRef τ sig)) ![768, 0] slices_S1024x64_S128x64_768_0) := by
  rw [atProgram, first6]
  unfold chunkFirst
  rw [eqAt, chunkEq, chunk]

theorem any7_eq (V : Valuation τ sig (Elt Ideal)) :
    after (atProgram ![896, 0] slices_S1024x64_S128x64_896_0 ops7) V (main_v70 : DevRef τ sig)
      = chunkAny (eqAt (V (main_arg0 : DevRef τ sig)) (V (main_arg1 : DevRef τ sig)) ![896, 0] slices_S1024x64_S128x64_896_0) := by
  rw [atProgram, any7, chunkAny, eqAt, chunkEq, chunk]

theorem first7_eq (V : Valuation τ sig (Elt Ideal)) :
    after (atProgram ![896, 0] slices_S1024x64_S128x64_896_0 ops7) V (main_v71 : DevRef τ sig)
      = chunkFirst (eqAt (V (main_arg0 : DevRef τ sig)) (V (main_arg1 : DevRef τ sig)) ![896, 0] slices_S1024x64_S128x64_896_0) := by
  rw [atProgram, first7]
  unfold chunkFirst
  rw [eqAt, chunkEq, chunk]

/-- The concatenate of the chunks' `any`, over its function. -/
def opsFound (f : (Fin 8 → IVec S128 1) → IVec S1024 1) : List (HloOp τ sig (Elt Ideal)) :=
  [ nary ![main_v7, main_v16, main_v25, main_v34, main_v43, main_v52, main_v61, main_v70] main_v72 (fun u => f ![u 0, u 1, u 2, u 3, u 4, u 5, u 6, u 7]) ]

theorem keepFound (f) {r : Ref sig .tc} (hr : r ∉ [main_v72]) (V : Valuation τ sig (Elt Ideal)) :
    after (opsFound f) V (r : DevRef τ sig) = V (r : DevRef τ sig) :=
  after_of_writes_sub (W := [main_v72]) (opsFound f) V (forall_writes_sub_of_map rfl) hr

theorem foundAt (f) (V : Valuation τ sig (Elt Ideal)) :
    after (opsFound f) V (main_v72 : DevRef τ sig)
      = f ![V (main_v7 : DevRef τ sig), V (main_v16 : DevRef τ sig), V (main_v25 : DevRef τ sig), V (main_v34 : DevRef τ sig),
          V (main_v43 : DevRef τ sig), V (main_v52 : DevRef τ sig), V (main_v61 : DevRef τ sig), V (main_v70 : DevRef τ sig)] := by
  unfold opsFound
  rw [after_cons, after_nil, nary_result]
  rfl

/-- The concatenate of the chunks' `argmax`, over its function. -/
def opsHit (f : (Fin 8 → IVec S128 32) → IVec S1024 32) : List (HloOp τ sig (Elt Ideal)) :=
  [ nary ![main_v8, main_v17, main_v26, main_v35, main_v44, main_v53, main_v62, main_v71] main_v73 (fun u => f ![u 0, u 1, u 2, u 3, u 4, u 5, u 6, u 7]) ]

theorem keepHit (f) {r : Ref sig .tc} (hr : r ∉ [main_v73]) (V : Valuation τ sig (Elt Ideal)) :
    after (opsHit f) V (r : DevRef τ sig) = V (r : DevRef τ sig) :=
  after_of_writes_sub (W := [main_v73]) (opsHit f) V (forall_writes_sub_of_map rfl) hr

theorem hitAt (f) (V : Valuation τ sig (Elt Ideal)) :
    after (opsHit f) V (main_v73 : DevRef τ sig)
      = f ![V (main_v8 : DevRef τ sig), V (main_v17 : DevRef τ sig), V (main_v26 : DevRef τ sig), V (main_v35 : DevRef τ sig),
          V (main_v44 : DevRef τ sig), V (main_v53 : DevRef τ sig), V (main_v62 : DevRef τ sig), V (main_v71 : DevRef τ sig)] := by
  unfold opsHit
  rw [after_cons, after_nil, nary_result]
  rfl

/-- The operations after the concatenates: `take`, the linear fallback, the choice between them. -/
def opsTail : List (HloOp τ sig (Elt Ideal)) :=
  [ TRef.nullary main_call8.c (constantI S_ 32 0#32),
    TRef.unary main_call8.c main_call8.v0 (broadcastInDim S1024 ![] bcast_S_S1024),
    TRef.binary (.of main_v73) main_call8.v0 main_call8.v1 (cmpi .slt),
    TRef.nullary main_call8.c_0 (constantI S_ 32 8192#32),
    TRef.unary main_call8.c_0 main_call8.v2 (broadcastInDim S1024 ![] bcast_S_S1024),
    TRef.binary (.of main_v73) main_call8.v2 main_call8.v3 addi,
    TRef.ternary main_call8.v1 main_call8.v3 (.of main_v73) main_call8.call0.v0 select,
    TRef.unary main_call8.call0.v0 main_call8.v5 (broadcastInDim S1024x1 ![0] bcast_S1024_S1024x1_0),
    TRef.nullary main_call8.c_1 (constantI S1 32 8191#32),
    TRef.nullary main_call8.c_2 (constantI S_ 32 0#32),
    TRef.unary main_call8.c_2 main_call8.v6 (broadcastInDim S1024x1 ![] bcast_S_S1024x1),
    TRef.binary main_call8.v5 main_call8.v6 main_call8.v7 (cmpi .sge),
    TRef.unary main_call8.c_1 main_call8.v8 (broadcastInDim S1x1 ![1] bcast_S1_S1x1_1),
    TRef.unary main_call8.v8 main_call8.v9 (broadcastInDim S1024x1 ![0, 1] bcast_S1x1_S1024x1_0_1),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S1024x1_S1024_d1 h_S_),
    TRef.binary (.of main_arg2) main_call8.v5 main_call8.v13 (fun x i => Host.gather gather_S8192_S1024x1_S1024_n_0_n_n_0_1_1 x i),
    TRef.nullary main_call8.cst (constant (F := Ideal) S_ .f32 0x7FC00000#32),
    TRef.unary main_call8.cst main_call8.v14 (broadcastInDim S1024 ![] bcast_S_S1024),
    TRef.ternary main_call8.v12 main_call8.v13 main_call8.v14 main_call8.v15 select,
    unary main_arg3 main_v75 (transpose S64x1 [1, 0] · transposes_S1x64_S64x1_1_0),
    binary main_arg0 main_v75 main_v76 ((fun l r => Host.dotGeneral dot_S1024x64_S64x1_S1024x1_1_0_0_1_n_n none l r) : FVec Ideal S1024x64 .f32 → FVec Ideal S64x1 .f32 → FVec Ideal S1024x1 .f32),
    unary main_arg4 main_v77 (broadcastInDim S1x1 ![1] bcast_S1_S1x1_1),
    unary main_v77 main_v78 (broadcastInDim S1024x1 ![0, 1] bcast_S1x1_S1024x1_0_1),
    binary main_v76 main_v78 main_v79 (addf : FVec Ideal S1024x1 .f32 → FVec Ideal S1024x1 .f32 → FVec Ideal S1024x1 .f32),
    reshape main_v79 main_v80 rfl shapeCasts_S1024x1_S1024,
    TRef.ternary (.of main_v72) (.of main_v74) (.of main_v80) main_call9.v0 select,
    reshape main_v81 main_v82 rfl shapeCasts_S1024_S1024x1 ]

/-- What they write. -/
def writesTail : List (Ref sig .tc) :=
  [main_call8_c, main_call8_v0, main_call8_v1, main_call8_c_0, main_call8_v2, main_call8_v3, main_call8_v4, main_call8_v5,
    main_call8_c_1, main_call8_c_2, main_call8_v6, main_call8_v7, main_call8_v8, main_call8_v9, main_call8_v10,
    main_call8_v11, main_call8_c_3, main_call8_v12, main_call8_v13, main_call8_cst, main_call8_v14, main_v74, main_v75,
    main_v76, main_v77, main_v78, main_v79, main_v80, main_v81, main_v82]

theorem keepTail {r : Ref sig .tc} (hr : r ∉ writesTail) (V : Valuation τ sig (Elt Ideal)) :
    after opsTail V (r : DevRef τ sig) = V (r : DevRef τ sig) :=
  after_of_writes_sub (W := writesTail) opsTail V (forall_writes_sub_of_map rfl) hr

theorem tailAt (V : Valuation τ sig (Elt Ideal)) :
    after opsTail V (main_v82 : DevRef τ sig)
      = shapeCast S1024x1
          (select (V (main_v72 : DevRef τ sig)) (taken (V (main_arg2 : DevRef τ sig)) (V (main_v73 : DevRef τ sig)))
            (shapeCast S1024 (linear (V (main_arg0 : DevRef τ sig)) (V (main_arg3 : DevRef τ sig)) (V (main_arg4 : DevRef τ sig)))
              shapeCasts_S1024x1_S1024))
          shapeCasts_S1024_S1024x1 := by
  unfold opsTail
  after_results
  simp only [TRef.toBuf, TRef.ofBuf, cast_eq]
  rfl

/-! ## The whole line -/

/-- The program's operations, in order. -/
def ops : List (HloOp τ sig (Elt Ideal)) :=
  atProgram ![0, 0] slices_S1024x64_S128x64_0_0 ops0 ++ (
  atProgram ![128, 0] slices_S1024x64_S128x64_128_0 ops1 ++ (
  atProgram ![256, 0] slices_S1024x64_S128x64_256_0 ops2 ++ (
  atProgram ![384, 0] slices_S1024x64_S128x64_384_0 ops3 ++ (
  atProgram ![512, 0] slices_S1024x64_S128x64_512_0 ops4 ++ (
  atProgram ![640, 0] slices_S1024x64_S128x64_640_0 ops5 ++ (
  atProgram ![768, 0] slices_S1024x64_S128x64_768_0 ops6 ++ (
  atProgram ![896, 0] slices_S1024x64_S128x64_896_0 ops7 ++ (
  opsFound joinAny ++ (opsHit joinFirst ++ opsTail)))))))))

set_option maxHeartbeats 4000000 in
/-- @main is that line. -/
theorem main_isSeq (d : Dev nD) : IsSeq (main (F := Ideal) d) ops := by
  hlo_seq

end Cert.ReferenceRun

end
-- ==== Proof.ReferenceMask.lean ====
/-
  What one chunk of 128 queries contributes to the reference: which keys a query equals, whether it equals any, and the
  first such key, which the reference takes as the argmax of the mask.
-/
module

public import proofs.«01_k».proof.Proof.Lookup
public import proofs.«01_k».proof.Proof.ReferenceOps
public import Idealize.ShloMosaic.Lib.Pointwise
public import Idealize.ShloMosaic.Lib.Affine

@[expose] public section

noncomputable section

namespace Cert.ReferenceMask

open Idealize.ShloMosaic Cert.ReferenceIdeal Cert.ReferenceIdeal.Gen Cert.ReferenceRun Cert.Lookup

/-! ## Folds of one-bit words -/

/-- The conjunction of finitely many bits is one when every bit is. -/
theorem fold_and {ι : Type} (s : Finset ι) (f : ι → BitVec 1) : s.fold IntOp.andi 1#1 f = 1#1 ↔ ∀ i ∈ s, f i = 1#1 := by
  induction s using Finset.cons_induction with
  | empty => simp
  | cons a s ha ih =>
    rw [Finset.fold_cons, IntOp.andi_eq_one, ih, Finset.forall_mem_cons]

/-- The disjunction of finitely many bits is one when some bit is. -/
theorem fold_or {ι : Type} (s : Finset ι) (f : ι → BitVec 1) : s.fold IntOp.ori 0#1 f = 1#1 ↔ ∃ i ∈ s, f i = 1#1 := by
  induction s using Finset.cons_induction with
  | empty => simp
  | cons a s ha ih =>
    rw [Finset.fold_cons, IntOp.ori_eq_one, ih]
    simp

/-! ## The argmax of a mask -/

/-- A pair of a bit and an index is no better than `k`: if the bit is set, the index is at least `k`. -/
def Above (k : Nat) (p : BitVec 1 × BitVec 32) : Prop := p.1 = 1#1 → ∃ n, p.2 = BitVec.ofNat 32 n ∧ k ≤ n ∧ n < 8192

/-- The argmax's step keeps one of its two pairs: the left when its bit is greater, or the bits are equal and its index
    is smaller. -/
theorem step_eq (a b : BitVec 1 × BitVec 32) : reducer_argmax_i1_i32 a b =
    (if a.1 = 1#1 then a.1 else b.1,
      if (a.1 = 1#1 ∧ b.1 ≠ 1#1) ∨ (a.1 = b.1 ∧ a.2.slt b.2 = true) then a.2 else b.2) := by
  obtain ⟨a1, a2⟩ := a
  obtain ⟨b1, b2⟩ := b
  have ha : a1 = 0#1 ∨ a1 = 1#1 := by revert a1; decide
  have hb : b1 = 0#1 ∨ b1 = 1#1 := by revert b1; decide
  rcases ha with rfl | rfl <;> rcases hb with rfl | rfl <;> cases hs : a2.slt b2 <;>
    simp [reducer_argmax_i1_i32, Scalar.select, IntOp.cmpi, IntOp.ori, IntOp.andi, hs]

theorem step_above {k : Nat} {a b : BitVec 1 × BitVec 32} (ha : Above k a) (hb : Above k b) :
    Above k (reducer_argmax_i1_i32 a b) := by
  rw [step_eq]
  intro h
  by_cases h1 : a.1 = 1#1
  · by_cases h2 : b.1 = 1#1
    · dsimp only
      split_ifs
      · exact ha h1
      · exact hb h2
    · dsimp only
      rw [if_pos (.inl ⟨h1, h2⟩)]
      exact ha h1
  · dsimp only at h ⊢
    rw [if_neg h1] at h
    rw [if_neg (by rintro (h' | h'); exacts [h1 h'.1, h1 (h'.1.trans h)])]
    exact hb h

/-- The index of a small number, read as a signed number. -/
theorem toInt_index {n : Nat} (h : n < 8192) : (BitVec.ofNat 32 n).toInt = n := by
  rw [BitVec.toInt_eq_toNat_cond, BitVec.toNat_ofNat, Nat.mod_eq_of_lt (by omega), if_pos (by omega)]

theorem slt_index {m n : Nat} (hm : m < 8192) (hn : n < 8192) :
    (BitVec.ofNat 32 m).slt (BitVec.ofNat 32 n) = true ↔ m < n := by
  rw [BitVec.slt_iff_toInt_lt, toInt_index hm, toInt_index hn]
  exact Int.ofNat_lt

/-- A step between pairs no better than `k`, one of which is the set bit at `k`, keeps that one. -/
theorem step_best {k : Nat} (hk : k < 8192) {a b : BitVec 1 × BitVec 32} (ha : Above k a) (hb : Above k b)
    (h : a = (1#1, BitVec.ofNat 32 k) ∨ b = (1#1, BitVec.ofNat 32 k)) :
    reducer_argmax_i1_i32 a b = (1#1, BitVec.ofNat 32 k) := by
  rw [step_eq]
  rcases h with rfl | rfl
  · dsimp only
    rw [if_pos rfl]
    by_cases h2 : b.1 = 1#1
    · obtain ⟨n, hn, hkn, hlt⟩ := hb h2
      rcases hkn.eq_or_lt with rfl | hkn
      · rw [hn, ite_self]
      · rw [if_pos (.inr ⟨h2.symm, by rw [hn]; exact (slt_index hk hlt).mpr hkn⟩)]
    · rw [if_pos (.inl ⟨rfl, h2⟩)]
  · dsimp only
    by_cases h1 : a.1 = 1#1
    · obtain ⟨n, hn, hkn, hlt⟩ := ha h1
      rw [if_pos h1, h1, if_neg]
      rintro (h' | h')
      · exact h'.2 rfl
      · rw [hn, slt_index hlt hk] at h'
        omega
    · rw [if_neg h1, if_neg]
      rintro (h' | h')
      · exact h1 h'.1
      · exact h1 h'.1

/-- The argmax of a list of pairs no better than `k`, the set bit at `k` among them (or the start), is that pair. -/
theorem fold_best {k : Nat} (hk : k < 8192) (L : List (BitVec 1 × BitVec 32)) (hL : ∀ p ∈ L, Above k p) :
    ∀ a, Above k a → (a = (1#1, BitVec.ofNat 32 k) ∨ (1#1, BitVec.ofNat 32 k) ∈ L) →
      L.foldl reducer_argmax_i1_i32 a = (1#1, BitVec.ofNat 32 k) := by
  induction L with
  | nil =>
    intro a _ h
    rcases h with h | h
    · exact h
    · simp at h
  | cons p L ih =>
    intro a ha h
    have hp := hL p List.mem_cons_self
    rw [List.foldl_cons]
    refine ih (fun q hq => hL q (List.mem_cons_of_mem _ hq)) _ (step_above ha hp) ?_
    rcases h with h | h
    · exact .inl (step_best hk ha hp (.inl h))
    · rcases List.mem_cons.mp h with h | h
      · exact .inl (step_best hk ha hp (.inr h.symm))
      · exact .inr h

/-! ## One chunk -/

/-- A chunk's argmax at a query whose first set bit is at `k` is `k`. -/
theorem chunkFirst_val (e : IVec S128x8192 1) (q : Fin 128) (k : Fin 8192) (hk : e (ix2 q k) = 1#1)
    (hmin : ∀ k' < k, e (ix2 q k') ≠ 1#1) : chunkFirst e (ix1 q) = BitVec.ofNat 32 k.val := by
  have hpair : Host.reduce2 reducer_argmax_i1_i32 e (iotaInDim S128x8192 32 1) (constantI S_ 1 0#1) (constantI S_ 32 0#32)
      reducesTo_S128x8192_S128_d1 h_S_ (ix1 q) = (1#1, BitVec.ofNat 32 k.val) := by
    rw [Host.reduce2_eq_foldl_fiber]
    refine fold_best k.isLt _ (fun p hp => ?_) _ (fun h => absurd h (by decide)) (.inr ?_)
    · obtain ⟨n, hn, rfl⟩ := List.mem_map.mp hp
      have hd := of_decide_eq_true (List.mem_filter.mp hn).2
      generalize S128x8192.rowMajor.symm n = i at hd ⊢
      have hq : (i 0).val = q.val := by
        have hv : (reducesTo_S128x8192_S128_d1.drop i 0 : Nat) = i 0 :=
          Shape.ReducesTo.drop_apply_val reducesTo_S128x8192_S128_d1 i 0
        rw [← hv, hd]
        rfl
      intro hone
      refine ⟨(i 1).val, rfl, not_lt.mp fun hlt => hmin (i 1) hlt ?_, (i 1).isLt⟩
      have hi : (ix2 q (i 1) : S128x8192.Idx) = i := by
        funext d
        match d with
        | ⟨0, _⟩ => exact Fin.ext hq.symm
        | ⟨1, _⟩ => rfl
      exact (congrArg e hi).trans hone
    · refine List.mem_map.mpr ⟨S128x8192.rowMajor (ix2 q k), List.mem_filter.mpr ⟨List.mem_finRange _, ?_⟩, ?_⟩
      · rw [Equiv.symm_apply_apply]
        refine decide_eq_true (funext fun d => ?_)
        match d with
        | ⟨0, _⟩ =>
          exact Fin.ext (Shape.ReducesTo.drop_apply_val reducesTo_S128x8192_S128_d1 (ix2 q k) 0)
      · rw [Equiv.symm_apply_apply, hk]
        rfl
  rw [chunkFirst, hpair]

/-- Whether a chunk's query has a set bit. -/
theorem chunkAny_iff (e : IVec S128x8192 1) (q : Fin 128) : chunkAny e (ix1 q) = 1#1 ↔ ∃ k : Fin 8192, e (ix2 q k) = 1#1 := by
  have h : chunkAny e (ix1 q) = Finset.univ.fold IntOp.ori 0#1 fun k : Fin 8192 => e (ix2 q k) := by
    pointwise [chunkAny]
  rw [h, fold_or]
  simp

end Cert.ReferenceMask

end
-- ==== Proof.FiniteKeys.lean ====
/-
  The precondition read at an entry: every entry of the key array is a real number.
-/
module

public import proofs.«01_k».proof.Proof.Gen.Pre_finite_keys
public import proofs.«01_k».proof.Proof.ReferenceMask

@[expose] public section

noncomputable section

namespace Cert.FiniteKeys

open Idealize.ShloMosaic Cert.Pre_finite_keys Cert.Pre_finite_keys.Gen

/-- The f32 pattern `0x7F800000` is plus infinity. -/
theorem inf_f32 : Ideal.ofBits .f32 0x7F800000#32 = ⊤ := by
  simp [Ideal.ofBits, Ideal.ieee]

/-- Where `finite_keys` is true, no entry of the keys is infinite. -/
theorem finite (x : FVec Ideal S1024x64 .f32) (X : FVec Ideal S8192x64 .f32) (y : FVec Ideal S8192 .f32) (W : FVec Ideal S1x64 .f32)
    (b : FVec Ideal S1 .f32) (h : Cert.Pre_finite_keys.fn (F := Ideal) x X y W b = fun _ => 1#1) (k : Fin 8192) (d : Fin 64) :
    X (ix2 k d) ≠ ⊤ ∧ X (ix2 k d) ≠ ⊥ := by
  have h0 := congrFun h ix0
  rw [Cert.Pre_finite_keys.fn] at h0
  dsimp only at h0
  rw [Host.reduce_eq_fold] at h0
  have hall := (ReferenceMask.fold_and _ _).mp h0 (ix2 k d) (Finset.mem_filter.mpr ⟨Finset.mem_univ _, funext fun a => a.elim0⟩)
  have hb : BitVec.ofBool (decide (max (X (ix2 k d)) (-X (ix2 k d)) < Ideal.ofBits .f32 0x7F800000#32)) = 1#1 := hall
  have hlt : max (X (ix2 k d)) (-X (ix2 k d)) < ⊤ := by
    by_contra hn
    rw [inf_f32, decide_eq_false hn] at hb
    exact absurd hb (by decide)
  refine ⟨fun ht => ?_, fun hbot => ?_⟩
  · rw [ht] at hlt
    simp at hlt
  · rw [hbot] at hlt
    simp at hlt

end Cert.FiniteKeys

end
-- ==== Proof.Block.lean ====
/-
  What the kernel body computes from one block of keys, at a row: which keys the row's query equals, the first of them,
  its place among all the keys, and the value stored for it.
-/
module

public import proofs.«01_k».proof.Proof.Lookup
public import proofs.«01_k».proof.Proof.Gen.KernelIdeal.Skeleton
public import Idealize.ShloMosaic.Lib.Pointwise
public import Idealize.ShloMosaic.Lib.Affine
public import Idealize.ShloMosaic.Lib.SortNet.Extract

@[expose] public section

noncomputable section

namespace Cert.Block

open Idealize.ShloMosaic Cert.KernelIdeal Cert.KernelIdeal.Gen Cert.Lookup

/-- The f32 pattern `0x40000000` is the extended real two. -/
theorem two_f32 : Ideal.ofBits .f32 0x40000000#32 = 2 := by
  rw [show (2 : EReal) = ((2 : ℝ) : EReal) from rfl]
  simp [Ideal.ofBits, Ideal.ieee, -EReal.coe_mul]; norm_num

/-- A one-bit word that is not one is zero. -/
theorem select_of_ne {α : Type} {c : BitVec 1} (h : c ≠ 1#1) (a b : α) : Scalar.select c a b = b := if_neg h

theorem select_of_eq {α : Type} {c : BitVec 1} (h : c = 1#1) (a b : α) : Scalar.select c a b = a := if_pos h

theorem toInt_small {n : Nat} (h : n ≤ 8192) : (BitVec.ofNat 32 n).toInt = n := by
  rw [BitVec.toInt_eq_toNat_cond, BitVec.toNat_ofNat, Nat.mod_eq_of_lt (by omega), if_pos (by omega)]

/-- The signed minimum over the places of a mask, a place outside it counting as 8192: the mask's first place, or 8192
    for an empty mask. -/
theorem fold_first {n : Nat} (hn : n ≤ 8192) (hpos : 0 < n) (c : Fin n → BitVec 1) :
    (∀ l, c l = 1#1 → (∀ l' < l, c l' ≠ 1#1) →
        Finset.univ.fold IntOp.minsi 2147483647#32 (fun l : Fin n => Scalar.select (c l) (BitVec.ofNat 32 l.val) 8192#32)
          = BitVec.ofNat 32 l.val) ∧
      ((∀ l, c l ≠ 1#1) →
        Finset.univ.fold IntOp.minsi 2147483647#32 (fun l : Fin n => Scalar.select (c l) (BitVec.ofNat 32 l.val) 8192#32)
          = 8192#32) := by
  have hfold := Finset.fold_hom (op := IntOp.minsi (w := 32)) (op' := fun a b : Int => min a b)
    (s := (Finset.univ : Finset (Fin n))) (f := fun l : Fin n => Scalar.select (c l) (BitVec.ofNat 32 l.val) 8192#32)
    (b := 2147483647#32) (m := BitVec.toInt) SortNet.toInt_minsi
  have hone : ∀ l : Fin n, c l = 1#1 → (Scalar.select (c l) (BitVec.ofNat 32 l.val) 8192#32).toInt = l.val := fun l h => by
    rw [select_of_eq h, toInt_small (by omega)]
  have hne : ∀ l : Fin n, c l ≠ 1#1 → (Scalar.select (c l) (BitVec.ofNat 32 l.val) 8192#32).toInt = 8192 := fun l h => by
    rw [select_of_ne h]; rfl
  refine ⟨fun l hl hmin => ?_, fun hnone => ?_⟩
  · apply BitVec.eq_of_toInt_eq
    rw [← hfold, toInt_small (n := l.val) (by omega)]
    apply le_antisymm
    · exact (Finset.fold_min_le _).mpr (.inr ⟨l, Finset.mem_univ l, (hone l hl).le⟩)
    · refine (Finset.le_fold_min _).mpr ⟨le_trans (by omega) (show (8192 : Int) ≤ (2147483647#32).toInt by decide), fun l' _ => ?_⟩
      by_cases h : c l' = 1#1
      · rw [hone l' h]
        have := not_lt.mp fun hlt => hmin l' hlt h
        exact_mod_cast this
      · rw [hne l' h]; have := l.isLt; omega
  · apply BitVec.eq_of_toInt_eq
    rw [← hfold]
    apply le_antisymm
    · exact (Finset.fold_min_le _).mpr (.inr ⟨⟨0, hpos⟩, Finset.mem_univ _, (hne _ (hnone _)).le⟩)
    · exact (Finset.le_fold_min _).mpr ⟨by decide, fun l' _ => (hne l' (hnone l')).ge⟩

section

variable (x : Vec Ideal S1024x64 .f32) (X : Vec Ideal S512x64 .f32) (y : Vec Ideal S1x512 .f32)

/-- The queries, by row and feature. -/
abbrev queries (r : Fin 1024) (d : Fin 64) : EReal := x (ix2 r d)

/-- The block's keys, by place and feature. -/
abbrev keys (l : Fin 512) (d : Fin 64) : EReal := X (ix2 l d)

variable (hX : ∀ l d, keys X l d ≠ ⊤ ∧ keys X l d ≠ ⊥)

include hX in
/-- The distance test says whether the query equals the key. -/
theorem pay7_iff (r : Fin 1024) (l : Fin 512) : k0_pay7 (F := Ideal) x X (ix2 r l) = 1#1 ↔ Hit (queries x) (keys X) r l := by
  have h := dist_eq_zero_iff (queries x r) (keys X l) (hX l)
  simp only [one_mul] at h
  rw [Hit, ← h]
  pointwise [k0_pay7]
  rw [two_f32]
  by_cases hc : (∑ d, x (ix2 r d) * x (ix2 r d)) - 2 * (∑ d, x (ix2 r d) * X (ix2 l d)) + (∑ d, X (ix2 l d) * X (ix2 l d)) = 0
  · simp [hc]
  · simp [hc]

include hX in
/-- The block's least index: the first key the query equals, or 8192. -/
theorem pay8_val (r : Fin 1024) :
    (∀ l, First (queries x) (keys X) r l → k0_pay8 (F := Ideal) x X (ix2 r 0) = BitVec.ofNat 32 l.val) ∧
      ((∀ l, ¬ Hit (queries x) (keys X) r l) → k0_pay8 (F := Ideal) x X (ix2 r 0) = 8192#32) := by
  have h := fold_first (by norm_num) (by norm_num) fun l : Fin 512 => k0_pay7 (F := Ideal) x X (ix2 r l)
  have hval : k0_pay8 (F := Ideal) x X (ix2 r 0) = Finset.univ.fold IntOp.minsi 2147483647#32
      (fun l : Fin 512 => Scalar.select (k0_pay7 (F := Ideal) x X (ix2 r l)) (BitVec.ofNat 32 l.val) 8192#32) := by
    pointwise [k0_pay8]
  rw [hval]
  refine ⟨fun l hl => h.1 l ((pay7_iff x X hX r l).mpr hl.1) fun l' hlt hh => hl.2 l' hlt ((pay7_iff x X hX r l').mp hh),
    fun hn => h.2 fun l hh => hn l ((pay7_iff x X hX r l).mp hh)⟩

include hX in
/-- The first equal key's index among all the keys, or 8192; and the value stored for that key. -/
theorem block_val (i : grid0.Coords) (r : Fin 1024) :
    (∀ l, First (queries x) (keys X) r l →
        k0_pay9 (F := Ideal) i x X (ix2 r 0) = BitVec.ofNat 32 (512 * (i 0).val + l.val) ∧
          k0_pay10 (F := Ideal) x X y (ix2 r 0) = y (ix2 0 l)) ∧
      ((∀ l, ¬ Hit (queries x) (keys X) r l) → k0_pay9 (F := Ideal) i x X (ix2 r 0) = 8192#32) := by
  have h8 := pay8_val x X hX r
  have h9 : k0_pay9 (F := Ideal) i x X (ix2 r 0) = Scalar.select (IntOp.cmpi .slt (k0_pay8 (F := Ideal) x X (ix2 r 0)) 8192#32)
      (IntOp.addi (k0_pay8 (F := Ideal) x X (ix2 r 0)) (Scalar.muli (BitVec.ofNat 32 (i 0).val) 512#32)) 8192#32 := by
    pointwise [k0_pay9]
  have h10 : k0_pay10 (F := Ideal) x X y (ix2 r 0) = ∑ l : Fin 512,
      Scalar.select (IntOp.andi (IntOp.cmpi .eq (BitVec.ofNat 32 l.val) (k0_pay8 (F := Ideal) x X (ix2 r 0)))
        (k0_pay7 (F := Ideal) x X (ix2 r l))) (y (ix2 0 l)) 0 := by
    pointwise [k0_pay10]
  refine ⟨fun l hl => ⟨?_, ?_⟩, fun hn => ?_⟩
  · rw [h9, h8.1 l hl, select_of_eq]
    · rw [Nat.add_comm, Nat.mul_comm, BitVec.ofNat_add, BitVec.ofNat_mul]
      rfl
    · rw [IntOp.cmpi_slt, toInt_small (by omega)]
      have := l.isLt
      show (l.val : Int) < 8192
      omega
  · rw [h10, h8.1 l hl, Finset.sum_eq_single l]
    · have h7 := (pay7_iff x X hX r l).mpr hl.1
      rw [h7, select_of_eq]
      rw [IntOp.cmpi_eq.mpr rfl]; rfl
    · intro l' _ hne
      apply select_of_ne
      have hc : IntOp.cmpi .eq (BitVec.ofNat 32 l'.val) (BitVec.ofNat 32 l.val) ≠ 1#1 := fun hh => hne (by
        have := congrArg BitVec.toNat (IntOp.cmpi_eq.mp hh)
        simp only [BitVec.toNat_ofNat] at this
        apply Fin.ext; omega)
      intro hh
      exact hc (IntOp.andi_eq_one.mp hh).1
    · intro hh; exact absurd (Finset.mem_univ l) hh
  · rw [h9, h8.2 hn]; rfl

end

end Cert.Block

end
-- ==== Proof.Sweep.lean ====
/-
  The sweep over the blocks of keys, at one query: what the two carried accumulators hold after the first `n` blocks, one
  more block, and the result read off them after the last.
-/
module

public import proofs.«01_k».proof.Proof.Block

@[expose] public section

noncomputable section

namespace Cert.Sweep

open Idealize.ShloMosaic Cert.Lookup Cert.Block

variable (x : Fin 1024 → Fin 64 → EReal) (X : Fin 8192 → Fin 64 → EReal) (y : Fin 8192 → EReal) (r : Fin 1024)

/-- What the accumulators hold at the query `r` after the first `n` blocks of 512 keys: the first equal key's index and
    stored value when that key lies in those blocks, and the index 8192 when no key in them is equal. -/
def Seen (n : Nat) (idx : BitVec 32) (val : EReal) : Prop :=
  (∀ k, First x X r k → k.val < 512 * n → idx = BitVec.ofNat 32 k.val ∧ val = y k) ∧
    ((∀ k : Fin 8192, k.val < 512 * n → ¬ Hit x X r k) → idx = 8192#32)

/-- Block `n`'s keys. -/
def blockKeys (n : Nat) (hn : n < 16) (l : Fin 512) : Fin 64 → EReal := X ⟨512 * n + l.val, by omega⟩

variable {x X y r}

/-- Two first equal keys are one. -/
theorem first_unique {k k' : Fin 8192} (h : First x X r k) (h' : First x X r k') : k = k' :=
  le_antisymm (not_lt.mp fun hlt => h.2 k' hlt h'.1) (not_lt.mp fun hlt => h'.2 k hlt h.1)

/-- Before any block. -/
theorem Seen.zero (val : EReal) : Seen x X y r 0 8192#32 val :=
  ⟨fun _ _ h => absurd h (by omega), fun _ => rfl⟩

/-- A word below the first keys' end is a smaller word than another only as their numbers are. -/
theorem slt_iff {a b : Nat} (ha : a ≤ 8192) (hb : b ≤ 8192) :
    IntOp.cmpi .slt (BitVec.ofNat 32 a) (BitVec.ofNat 32 b) = 1#1 ↔ a < b := by
  rw [IntOp.cmpi_slt, toInt_small ha, toInt_small hb]; omega

/-- One more block: the accumulators take the block's finding where its index is the smaller. -/
theorem Seen.step {n : Nat} (hn : n < 16) {idx p9 : BitVec 32} {val p10 : EReal} (h : Seen x X y r n idx val)
    (hfirst : ∀ l, First x (blockKeys X n hn) r l → p9 = BitVec.ofNat 32 (512 * n + l.val) ∧ p10 = y ⟨512 * n + l.val, by omega⟩)
    (hnone : (∀ l, ¬ Hit x (blockKeys X n hn) r l) → p9 = 8192#32) :
    Seen x X y r (n + 1) (Scalar.select (IntOp.cmpi .slt p9 idx) p9 idx) (Scalar.select (IntOp.cmpi .slt p9 idx) p10 val) := by
  have hblock : ∀ k : Fin 8192, 512 * n ≤ k.val → k.val < 512 * (n + 1) → Hit x X r k →
      ∃ l : Fin 512, k.val = 512 * n + l.val ∧ Hit x (blockKeys X n hn) r l := fun k h1 h2 hk =>
    ⟨⟨k.val - 512 * n, by omega⟩, by simp only; omega, fun d => by
      have he : (⟨512 * n + (k.val - 512 * n), by omega⟩ : Fin 8192) = k := Fin.ext (by simp only; omega)
      rw [blockKeys, he]; exact hk d⟩
  by_cases hex : ∃ k : Fin 8192, k.val < 512 * n ∧ Hit x X r k
  · obtain ⟨k₀, hk₀, hh₀⟩ := hex
    obtain ⟨k, hk⟩ := exists_first hh₀
    have hkn : k.val < 512 * n := lt_of_le_of_lt (show k.val ≤ k₀.val from not_lt.mp fun hlt => hk.2 k₀ hlt hh₀) hk₀
    obtain ⟨hi, hv⟩ := h.1 k hk hkn
    have hno : IntOp.cmpi .slt p9 idx ≠ 1#1 := by
      rw [hi]
      by_cases hb : ∃ l, Hit x (blockKeys X n hn) r l
      · obtain ⟨l, hl⟩ := exists_first hb.choose_spec
        rw [(hfirst l hl).1, ne_eq, slt_iff (by omega) (by omega)]
        omega
      · rw [hnone fun l hl => hb ⟨l, hl⟩, ne_eq, show (8192#32) = BitVec.ofNat 32 8192 from rfl,
          slt_iff (by omega) (by omega)]
        omega
    rw [select_of_ne hno, select_of_ne hno]
    refine ⟨fun k' hk' _ => ?_, fun hn' => absurd hk.1 (hn' k (by omega))⟩
    rw [first_unique hk' hk]
    exact ⟨hi, hv⟩
  · have hnot : ∀ k : Fin 8192, k.val < 512 * n → ¬ Hit x X r k := fun k hk hh => hex ⟨k, hk, hh⟩
    rw [h.2 hnot]
    by_cases hb : ∃ l, Hit x (blockKeys X n hn) r l
    · obtain ⟨l, hl⟩ := exists_first hb.choose_spec
      obtain ⟨h9, h10⟩ := hfirst l hl
      have hyes : IntOp.cmpi .slt p9 8192#32 = 1#1 := by
        rw [h9, show (8192#32) = BitVec.ofNat 32 8192 from rfl, slt_iff (by omega) (by omega)]
        omega
      rw [select_of_eq hyes, select_of_eq hyes]
      have hkl : First x X r ⟨512 * n + l.val, by omega⟩ := by
        refine ⟨hl.1, fun k' hlt hh => ?_⟩
        have hlt' : k'.val < 512 * n + l.val := hlt
        by_cases hk' : k'.val < 512 * n
        · exact hnot k' hk' hh
        · obtain ⟨l', he, hl'⟩ := hblock k' (by omega) (by omega) hh
          exact hl.2 l' (show l'.val < l.val by omega) hl'
      refine ⟨fun k hk _ => ?_, fun hn' => absurd hkl.1 (hn' _ (by simp only; omega))⟩
      rw [first_unique hk hkl]
      exact ⟨h9, h10⟩
    · have h9 := hnone fun l hl => hb ⟨l, hl⟩
      rw [h9, select_of_ne (by decide), select_of_ne (by decide)]
      refine ⟨fun k hk hlt => ?_, fun _ => rfl⟩
      exfalso
      by_cases hk' : k.val < 512 * n
      · exact hnot k hk' hk.1
      · obtain ⟨l, _, hl⟩ := hblock k (by omega) hlt hk.1
        exact hb ⟨l, hl⟩

/-- After the last block the choice between the stored value and the linear map's is the lookup's result. -/
theorem Seen.result {idx : BitVec 32} {val : EReal} (h : Seen x X y r 16 idx val) (W : Fin 64 → EReal) (b : EReal) :
    IsLookup x X y W b r (Scalar.select (IntOp.cmpi .slt idx 8192#32) val ((∑ d, x r d * W d) + b)) := by
  refine ⟨fun k hk => ?_, fun hn => ?_⟩
  · obtain ⟨hi, hv⟩ := h.1 k hk (by omega)
    rw [hi, select_of_eq, hv]
    rw [show (8192#32) = BitVec.ofNat 32 8192 from rfl, slt_iff (by omega) (by omega)]
    omega
  · rw [h.2 fun k _ => hn k]; rfl

end Cert.Sweep

end
-- ==== Proof.KernelValue.lean ====
/-
  The kernel's result at the extended reals: what each grid point leaves in the carried accumulators, the blocks it reads as
  the arguments' entries, and the result after the last point, which is the lookup's.
-/
module

public import proofs.«01_k».proof.Proof.Sweep
public import proofs.«01_k».proof.Proof.Gen.KernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelValue

open Idealize.ShloMosaic Idealize.ShloMosaic.TcCoe Idealize.SL.Sem
open Cert.KernelIdeal Cert.KernelIdeal.Gen Cert.KernelIdeal.Value Cert.Lookup Cert.Block Cert.Sweep

variable (m : (ℓ : Loc nD τ sig) → Buf (Elt Ideal) ℓ) (c : Dev nD)

/-! ## What a grid point leaves -/

/-- The result's block and the two accumulators. -/
abbrev State := Vec Ideal S1024x1 .f32 × Vec Ideal S1024x1 .i32 × Vec Ideal S1024x1 .f32

/-- Point `t`'s block finding: the index, for every query. -/
abbrev foundAt (t : Fin cfg0.N) : IVec S1024x1 32 := k0_pay9 (F := Ideal) (grid0.coords t) (iblk m c 0 t) (iblk m c 1 t)

/-- Point `t`'s block finding: the stored value, for every query. -/
abbrev valueAt (t : Fin cfg0.N) : FVec Ideal S1024x1 .f32 := k0_pay10 (F := Ideal) (iblk m c 0 t) (iblk m c 1 t) (iblk m c 2 t)

theorem first_idx (t : Fin cfg0.N) (acc : State) (h0 : t.val % 16 = 0) (h1 : ¬t.val % 16 = 15) :
    (stAt0 m c t.val t.isLt acc).2.1 = k0_pay5 (F := Ideal) (foundAt m c t) k0_pay1 k0_pay1 := by
  rw [stAt0_A m c t acc h0 h1]
  dsimp only
  frame_out

theorem first_val (t : Fin cfg0.N) (acc : State) (h0 : t.val % 16 = 0) (h1 : ¬t.val % 16 = 15) :
    (stAt0 m c t.val t.isLt acc).2.2 = k0_pay4 (F := Ideal) (foundAt m c t) (valueAt m c t) k0_pay1 (k0_pay2 (F := Ideal)) := by
  rw [stAt0_A m c t acc h0 h1]
  dsimp only
  frame_out

theorem later_idx (t : Fin cfg0.N) (acc : State) (h0 : ¬t.val % 16 = 0) :
    (stAt0 m c t.val t.isLt acc).2.1 = k0_pay5 (F := Ideal) (foundAt m c t) acc.2.1 acc.2.1 := by
  by_cases h1 : t.val % 16 = 15
  · rw [stAt0_C m c t acc h0 h1]
    dsimp only
    frame_out
    rw [read_unread_whole]
  · rw [stAt0_B m c t acc h0 h1]
    dsimp only
    frame_out
    rw [read_unread_whole]

theorem later_val (t : Fin cfg0.N) (acc : State) (h0 : ¬t.val % 16 = 0) :
    (stAt0 m c t.val t.isLt acc).2.2 = k0_pay4 (F := Ideal) (foundAt m c t) (valueAt m c t) acc.2.1 acc.2.2 := by
  by_cases h1 : t.val % 16 = 15
  · rw [stAt0_C m c t acc h0 h1]
    dsimp only
    frame_out
    rw [read_unread_whole, read_unread_whole]
  · rw [stAt0_B m c t acc h0 h1]
    dsimp only
    frame_out
    rw [read_unread_whole, read_unread_whole]

/-- The last point writes the result from the accumulators as it leaves them. -/
theorem last_out (t : Fin cfg0.N) (acc : State) (h0 : ¬t.val % 16 = 0) (h1 : t.val % 16 = 15) :
    (stAt0 m c t.val t.isLt acc).1
      = k0_pay6 (F := Ideal) (iblk m c 0 t) (iblk m c 3 t) (iblk m c 4 t) (stAt0 m c t.val t.isLt acc).2.1
          (stAt0 m c t.val t.isLt acc).2.2 := by
  rw [later_idx m c t acc h0, later_val m c t acc h0, stAt0_C m c t acc h0 h1]
  dsimp only
  frame_out
  rw [read_unread_whole, read_unread_whole]

/-! ## The blocks, as the arguments' entries -/

theorem coord : ∀ t : Fin cfg0.N, (grid0.coords t 0).val = t.val :=
  (by decide +kernel : ∀ t : Fin grid0.N, (grid0.coords t 0).val = t.val)
theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)

theorem read0 (t : Fin cfg0.N) (r : Fin 1024) (d : Fin 64) :
    iblk m c 0 t (ix2 r d) = m ((c : Thread nD τ).loc main_arg0) (ix2 r d) := by
  blk_ext [iblk, V, index0]

theorem read1 (t : Fin cfg0.N) (l : Fin 512) (d : Fin 64) (h : 512 * t.val + l.val < 8192) :
    iblk m c 1 t (ix2 l d) = m ((c : Thread nD τ).loc main_arg1) (ix2 ⟨512 * t.val + l.val, h⟩ d) := by
  blk_ext [iblk, V, index1]

theorem read2 (t : Fin cfg0.N) (l : Fin 512) (h : 512 * t.val + l.val < 8192) :
    iblk m c 2 t (ix2 0 l) = m ((c : Thread nD τ).loc main_arg2) (ix1 ⟨512 * t.val + l.val, h⟩) := by
  have he : (win0_2.blk t).view.emb (ix2 0 l) = ix2 0 ⟨512 * t.val + l.val, h⟩ := by blk_ext [index2]
  blk_simp [iblk]
  rw [he]
  entry_read
  pointwise

theorem read3 (t : Fin cfg0.N) (d : Fin 64) :
    iblk m c 3 t (ix2 0 d) = m ((c : Thread nD τ).loc main_arg3) (ix2 0 d) := by
  blk_ext [iblk, V, index3]

theorem read4 (t : Fin cfg0.N) : iblk m c 4 t (ix2 0 0) = m ((c : Thread nD τ).loc main_arg4) (ix1 0) := by
  have he : (win0_4.blk t).view.emb (ix2 0 0) = ix2 0 0 := by blk_ext [index4]
  blk_simp [iblk]
  rw [he]
  entry_read
  pointwise

/-! ## The arguments, by coordinates -/

/-- The queries. -/
abbrev qs (r : Fin 1024) (d : Fin 64) : EReal := m ((c : Thread nD τ).loc main_arg0) (ix2 r d)
/-- The keys. -/
abbrev ks (k : Fin 8192) (d : Fin 64) : EReal := m ((c : Thread nD τ).loc main_arg1) (ix2 k d)
/-- The stored values. -/
abbrev ys (k : Fin 8192) : EReal := m ((c : Thread nD τ).loc main_arg2) (ix1 k)
/-- The linear map's weights. -/
abbrev ws (d : Fin 64) : EReal := m ((c : Thread nD τ).loc main_arg3) (ix2 0 d)
/-- The linear map's offset. -/
abbrev bs : EReal := m ((c : Thread nD τ).loc main_arg4) (ix1 0)

/-! ## The accumulators after every point -/

variable (hfin : ∀ k d, ks m c k d ≠ ⊤ ∧ ks m c k d ≠ ⊥)

include hfin in
/-- Point `t` finds in its block of keys what the sweep asks of it. -/
theorem block_found (t : Fin cfg0.N) (ht : t.val < 16) (r : Fin 1024) :
    (∀ l, First (qs m c) (blockKeys (ks m c) t.val ht) r l →
        foundAt m c t (ix2 r 0) = BitVec.ofNat 32 (512 * t.val + l.val) ∧
          valueAt m c t (ix2 r 0) = ys m c ⟨512 * t.val + l.val, by omega⟩) ∧
      ((∀ l, ¬ Hit (qs m c) (blockKeys (ks m c) t.val ht) r l) → foundAt m c t (ix2 r 0) = 8192#32) := by
  have hq : queries (iblk m c 0 t) = qs m c := funext fun r => funext fun d => read0 m c t r d
  have hk : keys (iblk m c 1 t) = blockKeys (ks m c) t.val ht := funext fun l => funext fun d => read1 m c t l d _
  have h := block_val (iblk m c 0 t) (iblk m c 1 t) (iblk m c 2 t)
    (fun l d => by rw [hk]; exact hfin _ d) (grid0.coords t) r
  rw [hq, hk, coord t] at h
  refine ⟨fun l hl => ⟨(h.1 l hl).1, (h.1 l hl).2.trans (read2 m c t l _)⟩, h.2⟩

/-- The choice of an index, at a query. -/
theorem pay5_at (a b : IVec S1024x1 32) (r : Fin 1024) :
    k0_pay5 (F := Ideal) a b b (ix2 r 0) = Scalar.select (IntOp.cmpi .slt (a (ix2 r 0)) (b (ix2 r 0))) (a (ix2 r 0)) (b (ix2 r 0)) := by
  pointwise [k0_pay5, k0_pay3]

/-- The choice of a value, at a query. -/
theorem pay4_at (a b : IVec S1024x1 32) (p v : FVec Ideal S1024x1 .f32) (r : Fin 1024) :
    k0_pay4 (F := Ideal) a p b v (ix2 r 0) = Scalar.select (IntOp.cmpi .slt (a (ix2 r 0)) (b (ix2 r 0))) (p (ix2 r 0)) (v (ix2 r 0)) := by
  pointwise [k0_pay4, k0_pay3]

include hfin in
/-- After point `n` the accumulators hold what the first `n + 1` blocks say. -/
theorem seen (r : Fin 1024) : ∀ (n : Nat) (hn : n < cfg0.N), Seen (qs m c) (ks m c) (ys m c) r (n + 1)
    ((outsAt0 m c n hn).2.1 (ix2 r 0)) ((outsAt0 m c n hn).2.2 (ix2 r 0))
  | 0, hn => by
    obtain ⟨h1, h2⟩ := block_found m c hfin ⟨0, hn⟩ (by norm_num) r
    have hi := first_idx m c ⟨0, hn⟩ junk0 rfl (by norm_num)
    have hv := first_val m c ⟨0, hn⟩ junk0 rfl (by norm_num)
    have e1 : k0_pay1 (ix2 (r : Fin 1024) (0 : Fin 1)) = 8192#32 := by pointwise [k0_pay1]
    have := (Seen.zero (x := qs m c) (X := ks m c) (y := ys m c) (r := r) ((k0_pay2 (F := Ideal)) (ix2 r 0))).step (by norm_num) h1 h2
    rw [outsAt0_zero m c hn, hi, hv, pay5_at, pay4_at, e1]
    exact this
  | n + 1, hn => by
    have hN : n + 1 < 16 := lt_of_lt_of_eq hn N_0
    have hmod : ¬ (n + 1) % 16 = 0 := by omega
    obtain ⟨h1, h2⟩ := block_found m c hfin ⟨n + 1, hn⟩ hN r
    have hi := later_idx m c ⟨n + 1, hn⟩ (outsAt0 m c n (Nat.lt_of_succ_lt hn)) hmod
    have hv := later_val m c ⟨n + 1, hn⟩ (outsAt0 m c n (Nat.lt_of_succ_lt hn)) hmod
    have := (seen r n (Nat.lt_of_succ_lt hn)).step hN h1 h2
    rw [outsAt0_succ m c n hn, hi, hv, pay5_at, pay4_at]
    exact this

/-- The choice of a result, at a query. -/
theorem pay6_at (x : Vec Ideal S1024x64 .f32) (W : Vec Ideal S1x64 .f32) (b : Vec Ideal S1x1 .f32) (i : Vec Ideal S1024x1 .i32)
    (v : Vec Ideal S1024x1 .f32) (r : Fin 1024) :
    k0_pay6 (F := Ideal) x W b i v (ix2 r 0)
      = Scalar.select (IntOp.cmpi .slt (i (ix2 r 0)) 8192#32) (v (ix2 r 0))
          ((∑ d : Fin 64, x (ix2 r d) * W (ix2 0 d)) + b (ix2 0 0)) := by
  pointwise [k0_pay6]

/-- The last point's result, from the accumulators after it. -/
theorem out_at (n : Nat) (hn : n + 1 < cfg0.N) (h : (n + 1) % 16 = 15) (r : Fin 1024) :
    (outsAt0 m c (n + 1) hn).1 (ix2 r 0)
      = Scalar.select (IntOp.cmpi .slt ((outsAt0 m c (n + 1) hn).2.1 (ix2 r 0)) 8192#32) ((outsAt0 m c (n + 1) hn).2.2 (ix2 r 0))
          ((∑ d, qs m c r d * ws m c d) + bs m c) := by
  rw [outsAt0_succ m c n hn]
  rw [last_out m c ⟨n + 1, hn⟩ _ (by show ¬(n + 1) % 16 = 0; omega) h, pay6_at]
  simp only [read0, read3, read4]

include hfin in
/-- What the last point's result holds is the lookup's result. -/
theorem result_at (n : Nat) (hn : n < cfg0.N) (h : n = 15) (r : Fin 1024) :
    IsLookup (qs m c) (ks m c) (ys m c) (ws m c) (bs m c) r ((outsAt0 m c n hn).1 (ix2 r 0)) := by
  obtain ⟨k, rfl⟩ : ∃ k, n = k + 1 := ⟨n - 1, by omega⟩
  have hs := seen m c hfin r (k + 1) hn
  rw [show k + 1 + 1 = 16 by omega] at hs
  rw [out_at m c k hn (by omega) r]
  exact hs.result (ws m c) (bs m c)

/-- The result array is the last point's. -/
theorem G5_outs (n : Nat) (hn : n < cfg0.N) (h : n = 15) : G5 m c = (outsAt0 m c n hn).1 := by
  subst h
  rw [G5_last, outsAt0_sweep]

include hfin in
/-- THE KERNEL'S RESULT: at every query, the lookup's. -/
theorem result (r : Fin 1024) : IsLookup (qs m c) (ks m c) (ys m c) (ws m c) (bs m c) r (G5 m c (ix2 r 0)) := by
  rw [G5_outs m c 15 (lt_of_lt_of_eq (by decide) N_0.symm) rfl]
  exact result_at m c hfin 15 _ rfl r

end Cert.KernelValue

end
-- ==== Proof.ReferenceRun.lean ====
/-
  The reference's run: the stretches of ReferenceOps.lean one after another end with `out` of the arguments as the
  result, and with the arguments as they were.
-/
module

public import proofs.«01_k».proof.Proof.ReferenceOps
public import Idealize.ShloMosaic.Lib.Pipeline.Frame

@[expose] public section

set_option maxRecDepth 4096

noncomputable section

namespace Cert.ReferenceRun

open Idealize.ShloMosaic Idealize.ShloMosaic.TcCoe Idealize.ShloMosaic.StableHlo Idealize.SL.Sem
open Cert.ReferenceIdeal Cert.ReferenceIdeal.Gen

theorem keep0_eq {r : Ref sig .tc} (hr : r ∉ writes0) (V : Valuation τ sig (Elt Ideal)) :
    after (atProgram ![0, 0] slices_S1024x64_S128x64_0_0 ops0) V (r : DevRef τ sig) = V (r : DevRef τ sig) := by
  rw [atProgram]; exact keep0 _ _ _ _ _ _ _ _ _ _ _ _ _ _ hr V

theorem keep1_eq {r : Ref sig .tc} (hr : r ∉ writes1) (V : Valuation τ sig (Elt Ideal)) :
    after (atProgram ![128, 0] slices_S1024x64_S128x64_128_0 ops1) V (r : DevRef τ sig) = V (r : DevRef τ sig) := by
  rw [atProgram]; exact keep1 _ _ _ _ _ _ _ _ _ _ _ _ _ _ hr V

theorem keep2_eq {r : Ref sig .tc} (hr : r ∉ writes2) (V : Valuation τ sig (Elt Ideal)) :
    after (atProgram ![256, 0] slices_S1024x64_S128x64_256_0 ops2) V (r : DevRef τ sig) = V (r : DevRef τ sig) := by
  rw [atProgram]; exact keep2 _ _ _ _ _ _ _ _ _ _ _ _ _ _ hr V

theorem keep3_eq {r : Ref sig .tc} (hr : r ∉ writes3) (V : Valuation τ sig (Elt Ideal)) :
    after (atProgram ![384, 0] slices_S1024x64_S128x64_384_0 ops3) V (r : DevRef τ sig) = V (r : DevRef τ sig) := by
  rw [atProgram]; exact keep3 _ _ _ _ _ _ _ _ _ _ _ _ _ _ hr V

theorem keep4_eq {r : Ref sig .tc} (hr : r ∉ writes4) (V : Valuation τ sig (Elt Ideal)) :
    after (atProgram ![512, 0] slices_S1024x64_S128x64_512_0 ops4) V (r : DevRef τ sig) = V (r : DevRef τ sig) := by
  rw [atProgram]; exact keep4 _ _ _ _ _ _ _ _ _ _ _ _ _ _ hr V

theorem keep5_eq {r : Ref sig .tc} (hr : r ∉ writes5) (V : Valuation τ sig (Elt Ideal)) :
    after (atProgram ![640, 0] slices_S1024x64_S128x64_640_0 ops5) V (r : DevRef τ sig) = V (r : DevRef τ sig) := by
  rw [atProgram]; exact keep5 _ _ _ _ _ _ _ _ _ _ _ _ _ _ hr V

theorem keep6_eq {r : Ref sig .tc} (hr : r ∉ writes6) (V : Valuation τ sig (Elt Ideal)) :
    after (atProgram ![768, 0] slices_S1024x64_S128x64_768_0 ops6) V (r : DevRef τ sig) = V (r : DevRef τ sig) := by
  rw [atProgram]; exact keep6 _ _ _ _ _ _ _ _ _ _ _ _ _ _ hr V

theorem keep7_eq {r : Ref sig .tc} (hr : r ∉ writes7) (V : Valuation τ sig (Elt Ideal)) :
    after (atProgram ![896, 0] slices_S1024x64_S128x64_896_0 ops7) V (r : DevRef τ sig) = V (r : DevRef τ sig) := by
  rw [atProgram]; exact keep7 _ _ _ _ _ _ _ _ _ _ _ _ _ _ hr V

theorem arg0_kept (V : Valuation τ sig (Elt Ideal)) : after ops V (main_arg0 : DevRef τ sig) = V (main_arg0 : DevRef τ sig) := by
  unfold ops
  rw [StableHlo.after_append, StableHlo.after_append, StableHlo.after_append, StableHlo.after_append, StableHlo.after_append, StableHlo.after_append, StableHlo.after_append, StableHlo.after_append, StableHlo.after_append, StableHlo.after_append, keepTail (by decide), keepHit _ (by decide), keepFound _ (by decide),
    keep7_eq (by decide), keep6_eq (by decide), keep5_eq (by decide), keep4_eq (by decide), keep3_eq (by decide), keep2_eq (by decide), keep1_eq (by decide), keep0_eq (by decide)]

theorem arg1_kept (V : Valuation τ sig (Elt Ideal)) : after ops V (main_arg1 : DevRef τ sig) = V (main_arg1 : DevRef τ sig) := by
  unfold ops
  rw [StableHlo.after_append, StableHlo.after_append, StableHlo.after_append, StableHlo.after_append, StableHlo.after_append, StableHlo.after_append, StableHlo.after_append, StableHlo.after_append, StableHlo.after_append, StableHlo.after_append, keepTail (by decide), keepHit _ (by decide), keepFound _ (by decide),
    keep7_eq (by decide), keep6_eq (by decide), keep5_eq (by decide), keep4_eq (by decide), keep3_eq (by decide), keep2_eq (by decide), keep1_eq (by decide), keep0_eq (by decide)]

theorem arg2_kept (V : Valuation τ sig (Elt Ideal)) : after ops V (main_arg2 : DevRef τ sig) = V (main_arg2 : DevRef τ sig) := by
  unfold ops
  rw [StableHlo.after_append, StableHlo.after_append, StableHlo.after_append, StableHlo.after_append, StableHlo.after_append, StableHlo.after_append, StableHlo.after_append, StableHlo.after_append, StableHlo.after_append, StableHlo.after_append, keepTail (by decide), keepHit _ (by decide), keepFound _ (by decide),
    keep7_eq (by decide), keep6_eq (by decide), keep5_eq (by decide), keep4_eq (by decide), keep3_eq (by decide), keep2_eq (by decide), keep1_eq (by decide), keep0_eq (by decide)]

theorem arg3_kept (V : Valuation τ sig (Elt Ideal)) : after ops V (main_arg3 : DevRef τ sig) = V (main_arg3 : DevRef τ sig) := by
  unfold ops
  rw [StableHlo.after_append, StableHlo.after_append, StableHlo.after_append, StableHlo.after_append, StableHlo.after_append, StableHlo.after_append, StableHlo.after_append, StableHlo.after_append, StableHlo.after_append, StableHlo.after_append, keepTail (by decide), keepHit _ (by decide), keepFound _ (by decide),
    keep7_eq (by decide), keep6_eq (by decide), keep5_eq (by decide), keep4_eq (by decide), keep3_eq (by decide), keep2_eq (by decide), keep1_eq (by decide), keep0_eq (by decide)]

theorem arg4_kept (V : Valuation τ sig (Elt Ideal)) : after ops V (main_arg4 : DevRef τ sig) = V (main_arg4 : DevRef τ sig) := by
  unfold ops
  rw [StableHlo.after_append, StableHlo.after_append, StableHlo.after_append, StableHlo.after_append, StableHlo.after_append, StableHlo.after_append, StableHlo.after_append, StableHlo.after_append, StableHlo.after_append, StableHlo.after_append, keepTail (by decide), keepHit _ (by decide), keepFound _ (by decide),
    keep7_eq (by decide), keep6_eq (by decide), keep5_eq (by decide), keep4_eq (by decide), keep3_eq (by decide), keep2_eq (by decide), keep1_eq (by decide), keep0_eq (by decide)]

/-- The line ends with `out` of the arguments in the result's buffer. -/
theorem out_left (V : Valuation τ sig (Elt Ideal)) :
    after ops V (main_v82 : DevRef τ sig)
      = out (V (main_arg0 : DevRef τ sig)) (V (main_arg1 : DevRef τ sig)) (V (main_arg2 : DevRef τ sig))
          (V (main_arg3 : DevRef τ sig)) (V (main_arg4 : DevRef τ sig)) := by
  unfold ops
  simp only [StableHlo.after_append]
  rw [tailAt, keepHit _ (r := main_v72) (by decide), foundAt,
    hitAt, keepFound _ (r := main_v8) (by decide), keepFound _ (r := main_v17) (by decide),
    keepFound _ (r := main_v26) (by decide), keepFound _ (r := main_v35) (by decide), keepFound _ (r := main_v44) (by decide),
    keepFound _ (r := main_v53) (by decide), keepFound _ (r := main_v62) (by decide), keepFound _ (r := main_v71) (by decide),
    keepHit _ (r := main_arg0) (by decide), keepFound _ (r := main_arg0) (by decide), keepHit _ (r := main_arg2) (by decide),
    keepFound _ (r := main_arg2) (by decide), keepHit _ (r := main_arg3) (by decide), keepFound _ (r := main_arg3) (by decide),
    keepHit _ (r := main_arg4) (by decide), keepFound _ (r := main_arg4) (by decide)]
  rw [any7_eq, first7_eq, keep7_eq (r := main_v7) (by decide), keep7_eq (r := main_v8) (by decide),
    keep7_eq (r := main_v16) (by decide), keep7_eq (r := main_v17) (by decide), keep7_eq (r := main_v25) (by decide), keep7_eq (r := main_v26) (by decide),
    keep7_eq (r := main_v34) (by decide), keep7_eq (r := main_v35) (by decide), keep7_eq (r := main_v43) (by decide), keep7_eq (r := main_v44) (by decide),
    keep7_eq (r := main_v52) (by decide), keep7_eq (r := main_v53) (by decide), keep7_eq (r := main_v61) (by decide), keep7_eq (r := main_v62) (by decide),
    keep7_eq (r := main_arg0) (by decide), keep7_eq (r := main_arg2) (by decide), keep7_eq (r := main_arg3) (by decide), keep7_eq (r := main_arg4) (by decide)]
  rw [any6_eq, first6_eq, keep6_eq (r := main_v7) (by decide), keep6_eq (r := main_v8) (by decide),
    keep6_eq (r := main_v16) (by decide), keep6_eq (r := main_v17) (by decide), keep6_eq (r := main_v25) (by decide), keep6_eq (r := main_v26) (by decide),
    keep6_eq (r := main_v34) (by decide), keep6_eq (r := main_v35) (by decide), keep6_eq (r := main_v43) (by decide), keep6_eq (r := main_v44) (by decide),
    keep6_eq (r := main_v52) (by decide), keep6_eq (r := main_v53) (by decide), keep6_eq (r := main_arg0) (by decide), keep6_eq (r := main_arg1) (by decide),
    keep6_eq (r := main_arg2) (by decide), keep6_eq (r := main_arg3) (by decide), keep6_eq (r := main_arg4) (by decide)]
  rw [any5_eq, first5_eq, keep5_eq (r := main_v7) (by decide), keep5_eq (r := main_v8) (by decide),
    keep5_eq (r := main_v16) (by decide), keep5_eq (r := main_v17) (by decide), keep5_eq (r := main_v25) (by decide), keep5_eq (r := main_v26) (by decide),
    keep5_eq (r := main_v34) (by decide), keep5_eq (r := main_v35) (by decide), keep5_eq (r := main_v43) (by decide), keep5_eq (r := main_v44) (by decide),
    keep5_eq (r := main_arg0) (by decide), keep5_eq (r := main_arg1) (by decide), keep5_eq (r := main_arg2) (by decide), keep5_eq (r := main_arg3) (by decide),
    keep5_eq (r := main_arg4) (by decide)]
  rw [any4_eq, first4_eq, keep4_eq (r := main_v7) (by decide), keep4_eq (r := main_v8) (by decide),
    keep4_eq (r := main_v16) (by decide), keep4_eq (r := main_v17) (by decide), keep4_eq (r := main_v25) (by decide), keep4_eq (r := main_v26) (by decide),
    keep4_eq (r := main_v34) (by decide), keep4_eq (r := main_v35) (by decide), keep4_eq (r := main_arg0) (by decide), keep4_eq (r := main_arg1) (by decide),
    keep4_eq (r := main_arg2) (by decide), keep4_eq (r := main_arg3) (by decide), keep4_eq (r := main_arg4) (by decide)]
  rw [any3_eq, first3_eq, keep3_eq (r := main_v7) (by decide), keep3_eq (r := main_v8) (by decide),
    keep3_eq (r := main_v16) (by decide), keep3_eq (r := main_v17) (by decide), keep3_eq (r := main_v25) (by decide), keep3_eq (r := main_v26) (by decide),
    keep3_eq (r := main_arg0) (by decide), keep3_eq (r := main_arg1) (by decide), keep3_eq (r := main_arg2) (by decide), keep3_eq (r := main_arg3) (by decide),
    keep3_eq (r := main_arg4) (by decide)]
  rw [any2_eq, first2_eq, keep2_eq (r := main_v7) (by decide), keep2_eq (r := main_v8) (by decide),
    keep2_eq (r := main_v16) (by decide), keep2_eq (r := main_v17) (by decide), keep2_eq (r := main_arg0) (by decide), keep2_eq (r := main_arg1) (by decide),
    keep2_eq (r := main_arg2) (by decide), keep2_eq (r := main_arg3) (by decide), keep2_eq (r := main_arg4) (by decide)]
  rw [any1_eq, first1_eq, keep1_eq (r := main_v7) (by decide), keep1_eq (r := main_v8) (by decide),
    keep1_eq (r := main_arg0) (by decide), keep1_eq (r := main_arg1) (by decide), keep1_eq (r := main_arg2) (by decide), keep1_eq (r := main_arg3) (by decide),
    keep1_eq (r := main_arg4) (by decide)]
  rw [any0_eq, first0_eq, keep0_eq (r := main_arg0) (by decide), keep0_eq (r := main_arg1) (by decide),
    keep0_eq (r := main_arg2) (by decide), keep0_eq (r := main_arg3) (by decide), keep0_eq (r := main_arg4) (by decide)]
  rw [out, found, hitIdx]

theorem ops_bufs : ops.Forall fun op => op.bufs ⊆ tcRefs τ sig := by
  simp [ops, atProgram, opsFound, opsHit, opsTail, argmaxOps, ops0, ops1, ops2, ops3, ops4, ops5, ops6, ops7]

theorem ops_fresh : ∀ op ∈ ops, op.fresh = ∅ :=
  List.forall_iff_forall_mem.mp (forall_fresh_of_map rfl)

/-- The reference runs, ends with `out` of its arguments as its result, and leaves its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v82)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (run_hlo defs main main_isSeq (by decide) (by decide) ops_bufs ops_fresh m g) fun r h c => ?_
  rw [h c main_v82, h c main_arg0, h c main_arg1, h c main_arg2, h c main_arg3, h c main_arg4, out_left, arg0_kept, arg1_kept,
    arg2_kept, arg3_kept, arg4_kept]
  exact ⟨rfl, rfl, rfl, rfl, rfl, rfl⟩

/-- The reference runs, leaves its arguments as they were and every semaphore counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_mono (run m g) fun r h =>
    ⟨fun c => (h c).2, sem_eq_zero_of_no_sems (sig := sig) (by decide) _⟩

end Cert.ReferenceRun

end
-- ==== Proof.ReferenceValue.lean ====
/-
  The reference's result at a query, over the extended reals: it is the lookup's.
-/
module

public import proofs.«01_k».proof.Proof.ReferenceMask
public import Idealize.ShloMosaic.Lib.Pointwise.IndexBridge
public import Idealize.ShloMosaic.Lib.Routing.OpsSearch

@[expose] public section

noncomputable section

namespace Cert.ReferenceValue

open Idealize.ShloMosaic Cert.ReferenceIdeal Cert.ReferenceIdeal.Gen Cert.ReferenceRun Cert.ReferenceMask Cert.Lookup

variable (x : FVec Ideal S1024x64 .f32) (X : FVec Ideal S8192x64 .f32)

/-- The queries, by row and feature. -/
abbrev queries (r : Fin 1024) (d : Fin 64) : EReal := x (ix2 r d)

/-- The keys, by row and feature. -/
abbrev keys (k : Fin 8192) (d : Fin 64) : EReal := X (ix2 k d)

/-! ## Which keys a query equals -/

/-- The mask of the chunk that starts at row `o` says which keys a query equals. -/
theorem eqAt_iff (o : Nat) (hs : S1024x64.Slices ![o, 0] S128x64) (q : Fin 128) (k : Fin 8192) (r : Fin 1024)
    (hr : r.val = o + q.val) : eqAt x X ![o, 0] hs (ix2 q k) = 1#1 ↔ Hit (queries x) (keys X) r k := by
  have h : eqAt x X ![o, 0] hs (ix2 q k) = Finset.univ.fold IntOp.andi 1#1
      fun d : Fin 64 => BitVec.ofBool (decide (x (ix2 r d) = X (ix2 k d))) := by
    obtain ⟨r, hlt⟩ := r
    dsimp only at hr
    subst hr
    pointwise [eqAt, chunkEq, chunk]
  rw [h, fold_and]
  constructor
  · intro hall d
    have := hall d (Finset.mem_univ d)
    by_contra hne
    rw [decide_eq_false hne] at this
    exact absurd this (by decide)
  · intro hhit d _
    rw [decide_eq_true (hhit d)]
    rfl

/-! ## The chunks, joined -/

/-- Row `128 * j + q` of the joined masks is row `q` of chunk `j`. -/
theorem joinAny_at (u : Fin 8 → IVec S128 1) (r : Fin 1024) (j : Fin 8) (q : Fin 128) (hr : r.val = 128 * j.val + q.val) :
    joinAny u (ix1 r) = u j (ix1 q) := by
  have key : ∀ (j' : Fin 8) (q' : Fin 128), 128 * j'.val + q'.val = r.val → u j' (ix1 q') = u j (ix1 q) := fun j' q' h => by
    rw [show j' = j from Fin.ext (by omega), show q' = q from Fin.ext (by omega)]
  pointwise [joinAny]
  split_ifs <;> refine key _ _ ?_ <;> simp <;> omega

/-- Row `128 * j + q` of the joined indices is row `q` of chunk `j`. -/
theorem joinFirst_at (u : Fin 8 → IVec S128 32) (r : Fin 1024) (j : Fin 8) (q : Fin 128) (hr : r.val = 128 * j.val + q.val) :
    joinFirst u (ix1 r) = u j (ix1 q) := by
  have key : ∀ (j' : Fin 8) (q' : Fin 128), 128 * j'.val + q'.val = r.val → u j' (ix1 q') = u j (ix1 q) := fun j' q' h => by
    rw [show j' = j from Fin.ext (by omega), show q' = q from Fin.ext (by omega)]
  pointwise [joinFirst]
  split_ifs <;> refine key _ _ ?_ <;> simp <;> omega

/-- Entry `j` of two lists made from the eight chunks is made from the chunk that starts at row `128 * j`. -/
theorem pick {α β γ : Type} (e : ∀ off : Fin 2 → Nat, S1024x64.Slices off S128x64 → α) (f : α → β) (g : α → γ) (j : Fin 8) :
    ∃ (o : Nat) (hs : S1024x64.Slices ![o, 0] S128x64), o = 128 * j.val ∧
      ![f (e ![0, 0] slices_S1024x64_S128x64_0_0), f (e ![128, 0] slices_S1024x64_S128x64_128_0),
          f (e ![256, 0] slices_S1024x64_S128x64_256_0), f (e ![384, 0] slices_S1024x64_S128x64_384_0),
          f (e ![512, 0] slices_S1024x64_S128x64_512_0), f (e ![640, 0] slices_S1024x64_S128x64_640_0),
          f (e ![768, 0] slices_S1024x64_S128x64_768_0), f (e ![896, 0] slices_S1024x64_S128x64_896_0)] j = f (e ![o, 0] hs) ∧
      ![g (e ![0, 0] slices_S1024x64_S128x64_0_0), g (e ![128, 0] slices_S1024x64_S128x64_128_0),
          g (e ![256, 0] slices_S1024x64_S128x64_256_0), g (e ![384, 0] slices_S1024x64_S128x64_384_0),
          g (e ![512, 0] slices_S1024x64_S128x64_512_0), g (e ![640, 0] slices_S1024x64_S128x64_640_0),
          g (e ![768, 0] slices_S1024x64_S128x64_768_0), g (e ![896, 0] slices_S1024x64_S128x64_896_0)] j = g (e ![o, 0] hs) := by
  match j with
  | 0 => exact ⟨0, slices_S1024x64_S128x64_0_0, rfl, rfl, rfl⟩
  | 1 => exact ⟨128, slices_S1024x64_S128x64_128_0, rfl, rfl, rfl⟩
  | 2 => exact ⟨256, slices_S1024x64_S128x64_256_0, rfl, rfl, rfl⟩
  | 3 => exact ⟨384, slices_S1024x64_S128x64_384_0, rfl, rfl, rfl⟩
  | 4 => exact ⟨512, slices_S1024x64_S128x64_512_0, rfl, rfl, rfl⟩
  | 5 => exact ⟨640, slices_S1024x64_S128x64_640_0, rfl, rfl, rfl⟩
  | 6 => exact ⟨768, slices_S1024x64_S128x64_768_0, rfl, rfl, rfl⟩
  | 7 => exact ⟨896, slices_S1024x64_S128x64_896_0, rfl, rfl, rfl⟩

/-- Every row of the joined results is a row of one chunk's. -/
theorem chunk_of_row (r : Fin 1024) : ∃ (o : Nat) (hs : S1024x64.Slices ![o, 0] S128x64) (q : Fin 128), r.val = o + q.val ∧
    found x X (ix1 r) = chunkAny (eqAt x X ![o, 0] hs) (ix1 q) ∧
      hitIdx x X (ix1 r) = chunkFirst (eqAt x X ![o, 0] hs) (ix1 q) := by
  obtain ⟨j, q, hr⟩ : ∃ (j : Fin 8) (q : Fin 128), r.val = 128 * j.val + q.val :=
    ⟨⟨r.val / 128, by omega⟩, ⟨r.val % 128, by omega⟩, by dsimp only; omega⟩
  rw [found, hitIdx, joinAny_at _ r j q hr, joinFirst_at _ r j q hr]
  obtain ⟨o, hs, ho, h1, h2⟩ := pick (eqAt x X) chunkAny chunkFirst j
  exact ⟨o, hs, q, by omega, congrFun h1 _, congrFun h2 _⟩

/-- Whether a query equals some key. -/
theorem found_iff (r : Fin 1024) : found x X (ix1 r) = 1#1 ↔ ∃ k, Hit (queries x) (keys X) r k := by
  obtain ⟨o, hs, q, hr, hf, -⟩ := chunk_of_row x X r
  rw [hf, chunkAny_iff]
  exact exists_congr fun k => eqAt_iff x X o hs q k r hr

/-- The index the reference looks up: the first key that the query equals. -/
theorem hitIdx_val (r : Fin 1024) (k : Fin 8192) (hk : First (queries x) (keys X) r k) :
    hitIdx x X (ix1 r) = BitVec.ofNat 32 k.val := by
  obtain ⟨o, hs, q, hr, -, hi⟩ := chunk_of_row x X r
  rw [hi]
  exact chunkFirst_val _ q k ((eqAt_iff x X o hs q k r hr).mpr hk.1)
    fun k' hlt h => hk.2 k' hlt ((eqAt_iff x X o hs q k' r hr).mp h)

/-! ## The value taken -/

/-- At an index in range `take` returns the value stored there. -/
theorem taken_val (y : FVec Ideal S8192 .f32) (i : IVec S1024 32) (r : Fin 1024) (k : Fin 8192)
    (hi : i (ix1 r) = BitVec.ofNat 32 k.val) : taken y i (ix1 r) = y (ix1 k) := by
  have hk := toInt_index k.isLt
  have hcol : ∀ c, column i (ix2 r c) = BitVec.ofNat 32 k.val := fun c => by
    have h : column i (ix2 r c) = Scalar.select (IntOp.cmpi .slt (i (ix1 r)) 0#32) (IntOp.addi (i (ix1 r)) 8192#32) (i (ix1 r)) := by
      pointwise [column]
    rw [h, hi]
    have hlt : IntOp.cmpi .slt (BitVec.ofNat 32 k.val) 0#32 ≠ 1#1 := fun h => by
      rw [IntOp.cmpi_slt, hk] at h
      change (k.val : Int) < 0 at h
      omega
    exact if_neg hlt
  have h : taken y i (ix1 r) = Scalar.select
      (Finset.univ.fold IntOp.andi 1#1 fun c : Fin 1 =>
        IntOp.andi (IntOp.cmpi .sge (column i (ix2 r c)) 0#32) (IntOp.cmpi .sle (column i (ix2 r c)) 8191#32))
      (Host.gather gather_S8192_S1024x1_S1024_n_0_n_n_0_1_1 y (column i) (ix1 r)) (Ideal.ofBits .f32 2143289344#32) := by
    pointwise [taken]
  rw [h]
  refine (if_pos ((fold_and _ _).mpr fun c _ => ?_)).trans ?_
  · rw [hcol, IntOp.andi_eq_one, IntOp.cmpi_sge, IntOp.cmpi_sle, hk]
    refine ⟨?_, ?_⟩
    · change (0 : Int) ≤ k.val
      omega
    · change (k.val : Int) ≤ 8191
      have := k.isLt
      omega
  · have hc := hcol 0
    rw [ix2_eq_valueIdx] at hc
    rw [ix1_eq_valueIdx, ix1_eq_valueIdx]
    exact Routing.take_ap gather_S8192_S1024x1_S1024_n_0_n_n_0_1_1 rfl rfl rfl rfl y (column i) r k.isLt
      (by have := k.isLt; omega) hc

/-! ## The result -/

/-- The reference's result at a query is the lookup's. -/
theorem result (y : FVec Ideal S8192 .f32) (W : FVec Ideal S1x64 .f32) (b : FVec Ideal S1 .f32) (r : Fin 1024) :
    IsLookup (queries x) (keys X) (fun k => y (ix1 k)) (fun d => W (ix2 0 d)) (b (ix1 0)) r (out x X y W b (ix2 r 0)) := by
  have h : out x X y W b (ix2 r 0) = Scalar.select (found x X (ix1 r)) (taken y (hitIdx x X) (ix1 r))
      ((∑ d, x (ix2 r d) * W (ix2 0 d)) + b (ix1 0)) := by
    pointwise [out, linear]
  rw [h]
  refine ⟨fun k hk => ?_, fun hn => ?_⟩
  · exact (if_pos ((found_iff x X r).mpr ⟨k, hk.1⟩)).trans (taken_val y _ r k (hitIdx_val x X r k hk))
  · exact if_neg fun hf => by
      obtain ⟨k, hk⟩ := (found_iff x X r).mp hf
      exact hn k hk

end Cert.ReferenceValue

end
-- ==== Proof.lean ====
/-
  The certificate's claims, put together. The frames are the generated ones for the two kernel programs and
  `ReferenceRun.frame` for the reference. The algebraic claim runs both programs (`KernelIdeal.Value.run`,
  `ReferenceRun.run`) and compares their results row by row: each is the lookup's (`KernelValue.result`,
  `ReferenceValue.result`), and the lookup has one result (`Lookup.IsLookup.unique`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite_keys
public import proofs.«01_k».proof.Proof.FiniteKeys
public import proofs.«01_k».proof.Proof.KernelValue
public import proofs.«01_k».proof.Proof.ReferenceRun
public import proofs.«01_k».proof.Proof.ReferenceValue
public import Idealize.ShloMosaic.Adequacy
public import Idealize.ShloMosaic.Init

@[expose] public section

noncomputable section

namespace Cert.Proof

open Idealize.ShloMosaic Idealize.SL.Sem

/-- On finite keys the two programs' results are one array: at every row both are the lookup's. -/
theorem results (m : (ℓ : Loc Cert.KernelIdeal.nD Cert.KernelIdeal.τ Cert.KernelIdeal.sig) → Buf (Elt Ideal) ℓ)
    (c : Dev Cert.KernelIdeal.nD)
    (x : FVec Ideal Cert.ReferenceIdeal.S1024x64 .f32) (X : FVec Ideal Cert.ReferenceIdeal.S8192x64 .f32)
    (y : FVec Ideal Cert.ReferenceIdeal.S8192 .f32) (W : FVec Ideal Cert.ReferenceIdeal.S1x64 .f32)
    (b : FVec Ideal Cert.ReferenceIdeal.S1 .f32)
    (hx : x = m ((c.tc : Thread Cert.KernelIdeal.nD Cert.KernelIdeal.τ).loc Cert.KernelIdeal.main_arg0))
    (hX : X = m ((c.tc : Thread Cert.KernelIdeal.nD Cert.KernelIdeal.τ).loc Cert.KernelIdeal.main_arg1))
    (hy : y = m ((c.tc : Thread Cert.KernelIdeal.nD Cert.KernelIdeal.τ).loc Cert.KernelIdeal.main_arg2))
    (hW : W = m ((c.tc : Thread Cert.KernelIdeal.nD Cert.KernelIdeal.τ).loc Cert.KernelIdeal.main_arg3))
    (hb : b = m ((c.tc : Thread Cert.KernelIdeal.nD Cert.KernelIdeal.τ).loc Cert.KernelIdeal.main_arg4))
    (hfin : Cert.Pre_finite_keys.fn (F := Ideal) x X y W b = fun _ => 1#1) :
    ReferenceRun.out x X y W b = Cert.KernelIdeal.Value.G5 m c := by
  have hk := fun r => KernelValue.result m c
    (fun k d => by have := FiniteKeys.finite x X y W b hfin k d; rw [hX] at this; exact this) r
  have hr := fun r => ReferenceValue.result x X y W b r
  funext i
  obtain ⟨r, z, rfl⟩ : ∃ (r : Fin 1024) (z : Fin 1), i = ix2 r z := ⟨i 0, i 1, eq_ix2 i⟩
  obtain rfl : z = 0 := Subsingleton.elim _ _
  have h1 := hr r
  have h2 := hk r
  subst hx hX hy hW hb
  exact Lookup.IsLookup.unique h1 h2

/-- From agreeing arguments with finite keys the kernel and the reference end with equal results. -/
theorem algebraic : Cert.algebraic_KernelIdeal_ReferenceIdeal_pre_finite_keys := by
  intro m g m' g' hpre hagree
  refine ⟨Cert.KernelIdeal.Value.G5 m, Cert.KernelIdeal.Value.run m g, θ_run_mono (ReferenceRun.run m' g') fun r h c => ?_⟩
  obtain ⟨h0, h1, h2, h3, h4⟩ := hagree c
  refine ⟨(h c).1.trans (results m c _ _ _ _ _ h0 h1 h2 h3 h4 ?_), (h c).2⟩
  rw [h0, h1, h2, h3, h4]
  exact hpre c

/-- Every claim of the certificate. -/
theorem claim : Cert.Claim :=
  ⟨Cert.Kernel.Gen.facts, Cert.KernelIdeal.Gen.facts, Cert.ReferenceIdeal.Gen.facts, Cert.Pre_finite_keys.Gen.facts,
    fun m ρ _ => Cert.Kernel.Gen.frame m ρ, fun m ρ _ => Cert.KernelIdeal.Gen.frame m ρ,
    fun m ρ _ => Cert.KernelIdeal.Gen.frame m ρ, fun m g _ => ReferenceRun.frame m g, fun m g _ => ReferenceRun.frame m g,
    trivial, algebraic⟩

end Cert.Proof

end
